-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_typed_nodes [hPre_typed_nodes : Cert.Pre_typed_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_typed_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_typed_nodes [hPre_typed_nodes : Cert.Pre_typed_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_typed_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_typed_nodes [hKernelIdeal : Cert.KernelIdeal.Facts] [hPre_typed_nodes : Cert.Pre_typed_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_typed_nodes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_typed_nodes [hReferenceIdeal : Cert.ReferenceIdeal.Facts] [hPre_typed_nodes : Cert.Pre_typed_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_typed_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_typed_nodes [hKernelIdeal : Cert.KernelIdeal.Facts] [hReferenceIdeal : Cert.ReferenceIdeal.Facts] [hPre_typed_nodes : Cert.Pre_typed_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_typed_nodes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_typed_nodes : Cert.Pre_typed_nodes.Facts),
    quiescent_Kernel (hKernel := hKernel)
    ∧ quiescent_KernelIdeal (hKernelIdeal := hKernelIdeal)
    ∧ quiescent_KernelIdeal_pre_typed_nodes (hKernelIdeal := hKernelIdeal) (hPre_typed_nodes := hPre_typed_nodes)
    ∧ quiescent_ReferenceIdeal (hReferenceIdeal := hReferenceIdeal)
    ∧ quiescent_ReferenceIdeal_pre_typed_nodes (hReferenceIdeal := hReferenceIdeal) (hPre_typed_nodes := hPre_typed_nodes)
    ∧ preserves_Kernel_KernelIdeal
    ∧ algebraic_KernelIdeal_ReferenceIdeal_pre_typed_nodes (hKernelIdeal := hKernelIdeal) (hReferenceIdeal := hReferenceIdeal) (hPre_typed_nodes := hPre_typed_nodes)
-- ==== Pre_typed_nodes.lean ====
abbrev S100000x129 : Shape := ⟨2, ![100000, 129]⟩
abbrev S128x128 : Shape := ⟨2, ![128, 128]⟩
abbrev S128 : Shape := ⟨1, ![128]⟩
abbrev S64x128 : Shape := ⟨2, ![64, 128]⟩
abbrev S100000x1 : Shape := ⟨2, ![100000, 1]⟩
abbrev S100000 : Shape := ⟨1, ![100000]⟩
abbrev S_ : Shape := ⟨0, ![]⟩

class Facts : Prop where
  slices_S100000x129_S100000x1_0_0 : S100000x129.Slices ![0, 0] S100000x1
  shapeCasts_S100000x1_S100000 : S100000x1.ShapeCasts S100000
  bcast_S_S100000 : S_.BroadcastsInDim S100000 (![] : Fin 0 → Fin S100000.rank)

variable [Facts]

def fn {F : FTy → Type} [FloatOps F] (main_arg0 : FVec F S100000x129 .f32) (main_arg1 : FVec F S128x128 .f32) (main_arg2 : FVec F S128 .f32) (main_arg3 : FVec F S128x128 .f32) (main_arg4 : FVec F S128 .f32) (main_arg5 : FVec F S64x128 .f32) (main_arg6 : FVec F S128 .f32) (main_arg7 : FVec F S128x128 .f32) (main_arg8 : FVec F S128 .f32) : IVec S100000 1 :=
  let main_v0 : FVec F S100000x1 .f32 := (extractStridedSlice S100000x1 ![0, 0] · slices_S100000x129_S100000x1_0_0) main_arg0
  let main_v1 : FVec F S100000 .f32 := shapeCast S100000 main_v0 shapeCasts_S100000x1_S100000
  let main_cst : FVec F S_ .f32 := constant S_ .f32 0x00000000#32
  let main_v2 : FVec F S100000 .f32 := broadcastInDim S100000 ![] bcast_S_S100000 main_cst
  let main_v3 : IVec S100000 1 := cmpf .oeq main_v1 main_v2
  let main_v4 : FVec F S100000x1 .f32 := (extractStridedSlice S100000x1 ![0, 0] · slices_S100000x129_S100000x1_0_0) main_arg0
  let main_v5 : FVec F S100000 .f32 := shapeCast S100000 main_v4 shapeCasts_S100000x1_S100000
  let main_cst_0 : FVec F S_ .f32 := constant S_ .f32 0x3F800000#32
  let main_v6 : FVec F S100000 .f32 := broadcastInDim S100000 ![] bcast_S_S100000 main_cst_0
  let main_v7 : IVec S100000 1 := cmpf .oeq main_v5 main_v6
  let main_v8 : IVec S100000 1 := ori main_v3 main_v7
  main_v8
-- ==== Kernel.lean ====
abbrev S100000x129 : Shape := ⟨2, ![100000, 129]⟩
abbrev S128x128 : Shape := ⟨2, ![128, 128]⟩
abbrev S128 : Shape := ⟨1, ![128]⟩
abbrev S64x128 : Shape := ⟨2, ![64, 128]⟩
abbrev S_ : Shape := ⟨0, ![]⟩
abbrev S129x256 : Shape := ⟨2, ![129, 256]⟩
abbrev S1 : Shape := ⟨1, ![1]⟩
abbrev S2 : Shape := ⟨1, ![2]⟩
abbrev S256 : Shape := ⟨1, ![256]⟩
abbrev S1x256 : Shape := ⟨2, ![1, 256]⟩
abbrev S256x128 : Shape := ⟨2, ![256, 128]⟩
abbrev S1x128 : Shape := ⟨2, ![1, 128]⟩
abbrev S100000x128 : Shape := ⟨2, ![100000, 128]⟩
abbrev S3x2000x129 : Shape := ⟨3, ![3, 2000, 129]⟩
abbrev S3 : Shape := ⟨1, ![3]⟩
abbrev S2x2000x128 : Shape := ⟨3, ![2, 2000, 128]⟩
abbrev S1x2000x129 : Shape := ⟨3, ![1, 2000, 129]⟩
abbrev S2000x129 : Shape := ⟨2, ![2000, 129]⟩
abbrev S2000x1 : Shape := ⟨2, ![2000, 1]⟩
abbrev S2000x256 : Shape := ⟨2, ![2000, 256]⟩
abbrev S2000x128 : Shape := ⟨2, ![2000, 128]⟩
abbrev S1x2000x128 : Shape := ⟨3, ![1, 2000, 128]⟩

abbrev nBuf : Space → Nat
  | .hbm => 29
  | .vmem => 15
  | .smem => 0
  | _ => 0

abbrev bufTy : (tb : Table) → Fin (tcTables nBuf tb) → BufTy
  | .hbm, ⟨0, _⟩ => ⟨S100000x129, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S129x256, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S129x256, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S129x256, .f32⟩
  | .hbm, ⟨23, _⟩ => ⟨S256, .f32⟩
  | .hbm, ⟨24, _⟩ => ⟨S1x256, .f32⟩
  | .hbm, ⟨25, _⟩ => ⟨S256x128, .f32⟩
  | .hbm, ⟨26, _⟩ => ⟨S1x128, .f32⟩
  | .hbm, ⟨27, _⟩ => ⟨S1x128, .f32⟩
  | .hbm, ⟨28, _⟩ => ⟨S100000x128, .f32⟩
  | .local _ .vmem, ⟨0, _⟩ => ⟨S129x256, .f32⟩
  | .local _ .vmem, ⟨1, _⟩ => ⟨S1x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S3x2000x129, .f32⟩
  | .local _ .vmem, ⟨6, _⟩ => ⟨S3x2000x129, .f32⟩
  | .local _ .vmem, ⟨7, _⟩ => ⟨S3x2000x129, .f32⟩
  | .local _ .vmem, ⟨8, _⟩ => ⟨S3x2000x129, .f32⟩
  | .local _ .vmem, ⟨9, _⟩ => ⟨S3x2000x129, .f32⟩
  | .local _ .vmem, ⟨10, _⟩ => ⟨S2x2000x128, .f32⟩
  | .local _ .vmem, ⟨11, _⟩ => ⟨S2x2000x128, .f32⟩
  | .local _ .vmem, ⟨12, _⟩ => ⟨S2x2000x128, .f32⟩
  | .local _ .vmem, ⟨13, _⟩ => ⟨S2x2000x128, .f32⟩
  | .local _ .vmem, ⟨14, _⟩ => ⟨S2x2000x128, .f32⟩
  | _, _ => ⟨S100000x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_v0 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scoped0 : Ref sig .tc := ⟨.vmem, 5, rfl⟩
abbrev cc0_scoped2 : Ref sig .tc := ⟨.vmem, 6, rfl⟩
abbrev cc0_scoped4 : Ref sig .tc := ⟨.vmem, 7, rfl⟩
abbrev cc0_scoped6 : Ref sig .tc := ⟨.vmem, 8, rfl⟩
abbrev cc0_scoped8 : Ref sig .tc := ⟨.vmem, 9, rfl⟩
abbrev cc0_scoped10 : Ref sig .tc := ⟨.vmem, 10, rfl⟩
abbrev cc0_scoped12 : Ref sig .tc := ⟨.vmem, 11, rfl⟩
abbrev cc0_scoped14 : Ref sig .tc := ⟨.vmem, 12, rfl⟩
abbrev cc0_scoped16 : Ref sig .tc := ⟨.vmem, 13, rfl⟩
abbrev cc0_scoped18 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 : Fin 1 → Nat :=
  let c0_i32_25_r0 : BitVec 32 := 0#32
  let c3_i32_r0 : BitVec 32 := 3#32
  let v28_r0 : BitVec 32 := Scalar.remui c0_i32_25_r0 c3_i32_r0
  ![v28_r0.toNat]
def k0_off2 : Fin 3 → Nat :=
  let c0_i32_25_r0 : BitVec 32 := 0#32
  let c3_i32_r0 : BitVec 32 := 3#32
  let v28_r0 : BitVec 32 := Scalar.remui c0_i32_25_r0 c3_i32_r0
  let c0_i32_26_r0 : BitVec 32 := 0#32
  let c0_i32_27_r0 : BitVec 32 := 0#32
  ![v28_r0.toNat, 0, 0]
def k0_cond1 : BitVec 1 :=
  let true_62_r0 : BitVec 1 := 1#1
  let c5_i32_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v63_r0 : BitVec 32 := Scalar.muli c5_i32_r0 v17_r0
  let c0_i32_60_r0 : BitVec 32 := 0#32
  let v64_r0 : BitVec 32 := Scalar.addi v63_r0 c0_i32_60_r0
  let c0_i32_61_r0 : BitVec 32 := 0#32
  let v65_r0 : BitVec 1 := Scalar.cmpi .ne v64_r0 c0_i32_61_r0
  let v66_r0 : BitVec 1 := Scalar.andi true_62_r0 v65_r0
  let true_63_r0 : BitVec 1 := 1#1
  let v67_r0 : BitVec 1 := Scalar.andi v66_r0 true_63_r0
  let v68_r0 : BitVec 32 := Scalar.extui v67_r0
  let c0_i32_64_r0 : BitVec 32 := 0#32
  let v69_r0 : BitVec 1 := Scalar.cmpi .ne v68_r0 c0_i32_64_r0
  v69_r0

def k0_off3 : Fin 1 → Nat :=
  let c0_i32_30_r0 : BitVec 32 := 0#32
  let c1_i32_31_r0 : BitVec 32 := 1#32
  let v34_r0 : BitVec 32 := Scalar.addi c0_i32_30_r0 c1_i32_31_r0
  let c3_i32_172_r0 : BitVec 32 := 3#32
  let v180_r0 : BitVec 32 := Scalar.remui v34_r0 c3_i32_172_r0
  ![v180_r0.toNat]
def k0_off4 : Fin 3 → Nat :=
  let c0_i32_30_r0 : BitVec 32 := 0#32
  let c1_i32_31_r0 : BitVec 32 := 1#32
  let v34_r0 : BitVec 32 := Scalar.addi c0_i32_30_r0 c1_i32_31_r0
  let c3_i32_172_r0 : BitVec 32 := 3#32
  let v180_r0 : BitVec 32 := Scalar.remui v34_r0 c3_i32_172_r0
  let c0_i32_176_r0 : BitVec 32 := 0#32
  let c0_i32_177_r0 : BitVec 32 := 0#32
  ![v180_r0.toNat, 0, 0]
def k0_off5 : Fin 2 → Nat :=
  let c2000_i32_175_r0 : BitVec 32 := 2000#32
  let c5_i32_173_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v181_r0 : BitVec 32 := Scalar.muli c5_i32_173_r0 v17_r0
  let c0_i32_174_r0 : BitVec 32 := 0#32
  let v182_r0 : BitVec 32 := Scalar.addi v181_r0 c0_i32_174_r0
  let v183_r0 : BitVec 32 := Scalar.muli c2000_i32_175_r0 v182_r0
  let c0_i32_178_r0 : BitVec 32 := 0#32
  ![v183_r0.toNat, 0]
def k0_cond2 : BitVec 1 :=
  let true_69_r0 : BitVec 1 := 1#1
  let c5_i32_66_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v72_r0 : BitVec 32 := Scalar.muli c5_i32_66_r0 v17_r0
  let c1_i32_67_r0 : BitVec 32 := 1#32
  let v73_r0 : BitVec 32 := Scalar.addi v72_r0 c1_i32_67_r0
  let c1_i32_68_r0 : BitVec 32 := 1#32
  let v74_r0 : BitVec 1 := Scalar.cmpi .ne v73_r0 c1_i32_68_r0
  let v75_r0 : BitVec 1 := Scalar.andi true_69_r0 v74_r0
  let true_70_r0 : BitVec 1 := 1#1
  let v76_r0 : BitVec 1 := Scalar.andi v75_r0 true_70_r0
  let v77_r0 : BitVec 32 := Scalar.extui v76_r0
  let c0_i32_71_r0 : BitVec 32 := 0#32
  let v78_r0 : BitVec 1 := Scalar.cmpi .ne v77_r0 c0_i32_71_r0
  v78_r0

def k0_off6 : Fin 1 → Nat :=
  let c0_i32_37_r0 : BitVec 32 := 0#32
  let c1_i32_38_r0 : BitVec 32 := 1#32
  let v41_r0 : BitVec 32 := Scalar.addi c0_i32_37_r0 c1_i32_38_r0
  let c3_i32_172_r0 : BitVec 32 := 3#32
  let v180_r0 : BitVec 32 := Scalar.remui v41_r0 c3_i32_172_r0
  ![v180_r0.toNat]
def k0_off7 : Fin 3 → Nat :=
  let c0_i32_37_r0 : BitVec 32 := 0#32
  let c1_i32_38_r0 : BitVec 32 := 1#32
  let v41_r0 : BitVec 32 := Scalar.addi c0_i32_37_r0 c1_i32_38_r0
  let c3_i32_172_r0 : BitVec 32 := 3#32
  let v180_r0 : BitVec 32 := Scalar.remui v41_r0 c3_i32_172_r0
  let c0_i32_176_r0 : BitVec 32 := 0#32
  let c0_i32_177_r0 : BitVec 32 := 0#32
  ![v180_r0.toNat, 0, 0]
def k0_off8 : Fin 2 → Nat :=
  let c2000_i32_175_r0 : BitVec 32 := 2000#32
  let c5_i32_173_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v181_r0 : BitVec 32 := Scalar.muli c5_i32_173_r0 v17_r0
  let c1_i32_174_r0 : BitVec 32 := 1#32
  let v182_r0 : BitVec 32 := Scalar.addi v181_r0 c1_i32_174_r0
  let v183_r0 : BitVec 32 := Scalar.muli c2000_i32_175_r0 v182_r0
  let c0_i32_178_r0 : BitVec 32 := 0#32
  ![v183_r0.toNat, 0]
def k0_cond3 : BitVec 1 :=
  let true_75_r0 : BitVec 1 := 1#1
  let c5_i32_73_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v81_r0 : BitVec 32 := Scalar.muli c5_i32_73_r0 v17_r0
  let c2_i32_r0 : BitVec 32 := 2#32
  let v82_r0 : BitVec 32 := Scalar.addi v81_r0 c2_i32_r0
  let c2_i32_74_r0 : BitVec 32 := 2#32
  let v83_r0 : BitVec 1 := Scalar.cmpi .ne v82_r0 c2_i32_74_r0
  let v84_r0 : BitVec 1 := Scalar.andi true_75_r0 v83_r0
  let true_76_r0 : BitVec 1 := 1#1
  let v85_r0 : BitVec 1 := Scalar.andi v84_r0 true_76_r0
  let v86_r0 : BitVec 32 := Scalar.extui v85_r0
  let c0_i32_77_r0 : BitVec 32 := 0#32
  let v87_r0 : BitVec 1 := Scalar.cmpi .ne v86_r0 c0_i32_77_r0
  v87_r0

def k0_off9 : Fin 1 → Nat :=
  let c0_i32_44_r0 : BitVec 32 := 0#32
  let c1_i32_45_r0 : BitVec 32 := 1#32
  let v48_r0 : BitVec 32 := Scalar.addi c0_i32_44_r0 c1_i32_45_r0
  let c3_i32_172_r0 : BitVec 32 := 3#32
  let v180_r0 : BitVec 32 := Scalar.remui v48_r0 c3_i32_172_r0
  ![v180_r0.toNat]
def k0_off10 : Fin 3 → Nat :=
  let c0_i32_44_r0 : BitVec 32 := 0#32
  let c1_i32_45_r0 : BitVec 32 := 1#32
  let v48_r0 : BitVec 32 := Scalar.addi c0_i32_44_r0 c1_i32_45_r0
  let c3_i32_172_r0 : BitVec 32 := 3#32
  let v180_r0 : BitVec 32 := Scalar.remui v48_r0 c3_i32_172_r0
  let c0_i32_176_r0 : BitVec 32 := 0#32
  let c0_i32_177_r0 : BitVec 32 := 0#32
  ![v180_r0.toNat, 0, 0]
def k0_off11 : Fin 2 → Nat :=
  let c2000_i32_175_r0 : BitVec 32 := 2000#32
  let c5_i32_173_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v181_r0 : BitVec 32 := Scalar.muli c5_i32_173_r0 v17_r0
  let c2_i32_174_r0 : BitVec 32 := 2#32
  let v182_r0 : BitVec 32 := Scalar.addi v181_r0 c2_i32_174_r0
  let v183_r0 : BitVec 32 := Scalar.muli c2000_i32_175_r0 v182_r0
  let c0_i32_178_r0 : BitVec 32 := 0#32
  ![v183_r0.toNat, 0]
def k0_cond4 : BitVec 1 :=
  let true_82_r0 : BitVec 1 := 1#1
  let c5_i32_79_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v90_r0 : BitVec 32 := Scalar.muli c5_i32_79_r0 v17_r0
  let c3_i32_80_r0 : BitVec 32 := 3#32
  let v91_r0 : BitVec 32 := Scalar.addi v90_r0 c3_i32_80_r0
  let c3_i32_81_r0 : BitVec 32 := 3#32
  let v92_r0 : BitVec 1 := Scalar.cmpi .ne v91_r0 c3_i32_81_r0
  let v93_r0 : BitVec 1 := Scalar.andi true_82_r0 v92_r0
  let true_83_r0 : BitVec 1 := 1#1
  let v94_r0 : BitVec 1 := Scalar.andi v93_r0 true_83_r0
  let v95_r0 : BitVec 32 := Scalar.extui v94_r0
  let c0_i32_84_r0 : BitVec 32 := 0#32
  let v96_r0 : BitVec 1 := Scalar.cmpi .ne v95_r0 c0_i32_84_r0
  v96_r0

def k0_off12 : Fin 1 → Nat :=
  let c0_i32_51_r0 : BitVec 32 := 0#32
  let c1_i32_52_r0 : BitVec 32 := 1#32
  let v55_r0 : BitVec 32 := Scalar.addi c0_i32_51_r0 c1_i32_52_r0
  let c3_i32_172_r0 : BitVec 32 := 3#32
  let v180_r0 : BitVec 32 := Scalar.remui v55_r0 c3_i32_172_r0
  ![v180_r0.toNat]
def k0_off13 : Fin 3 → Nat :=
  let c0_i32_51_r0 : BitVec 32 := 0#32
  let c1_i32_52_r0 : BitVec 32 := 1#32
  let v55_r0 : BitVec 32 := Scalar.addi c0_i32_51_r0 c1_i32_52_r0
  let c3_i32_172_r0 : BitVec 32 := 3#32
  let v180_r0 : BitVec 32 := Scalar.remui v55_r0 c3_i32_172_r0
  let c0_i32_176_r0 : BitVec 32 := 0#32
  let c0_i32_177_r0 : BitVec 32 := 0#32
  ![v180_r0.toNat, 0, 0]
def k0_off14 : Fin 2 → Nat :=
  let c2000_i32_175_r0 : BitVec 32 := 2000#32
  let c5_i32_173_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v181_r0 : BitVec 32 := Scalar.muli c5_i32_173_r0 v17_r0
  let c3_i32_174_r0 : BitVec 32 := 3#32
  let v182_r0 : BitVec 32 := Scalar.addi v181_r0 c3_i32_174_r0
  let v183_r0 : BitVec 32 := Scalar.muli c2000_i32_175_r0 v182_r0
  let c0_i32_178_r0 : BitVec 32 := 0#32
  ![v183_r0.toNat, 0]
def k0_cond5 : BitVec 1 :=
  let true_88_r0 : BitVec 1 := 1#1
  let c5_i32_86_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v99_r0 : BitVec 32 := Scalar.muli c5_i32_86_r0 v17_r0
  let c4_i32_r0 : BitVec 32 := 4#32
  let v100_r0 : BitVec 32 := Scalar.addi v99_r0 c4_i32_r0
  let c4_i32_87_r0 : BitVec 32 := 4#32
  let v101_r0 : BitVec 1 := Scalar.cmpi .ne v100_r0 c4_i32_87_r0
  let v102_r0 : BitVec 1 := Scalar.andi true_88_r0 v101_r0
  let true_89_r0 : BitVec 1 := 1#1
  let v103_r0 : BitVec 1 := Scalar.andi v102_r0 true_89_r0
  let v104_r0 : BitVec 32 := Scalar.extui v103_r0
  let c0_i32_90_r0 : BitVec 32 := 0#32
  let v105_r0 : BitVec 1 := Scalar.cmpi .ne v104_r0 c0_i32_90_r0
  v105_r0

def k0_off15 : Fin 1 → Nat :=
  let c0_i32_58_r0 : BitVec 32 := 0#32
  let c1_i32_59_r0 : BitVec 32 := 1#32
  let v62_r0 : BitVec 32 := Scalar.addi c0_i32_58_r0 c1_i32_59_r0
  let c3_i32_172_r0 : BitVec 32 := 3#32
  let v180_r0 : BitVec 32 := Scalar.remui v62_r0 c3_i32_172_r0
  ![v180_r0.toNat]
def k0_off16 : Fin 3 → Nat :=
  let c0_i32_58_r0 : BitVec 32 := 0#32
  let c1_i32_59_r0 : BitVec 32 := 1#32
  let v62_r0 : BitVec 32 := Scalar.addi c0_i32_58_r0 c1_i32_59_r0
  let c3_i32_172_r0 : BitVec 32 := 3#32
  let v180_r0 : BitVec 32 := Scalar.remui v62_r0 c3_i32_172_r0
  let c0_i32_176_r0 : BitVec 32 := 0#32
  let c0_i32_177_r0 : BitVec 32 := 0#32
  ![v180_r0.toNat, 0, 0]
def k0_off17 : Fin 2 → Nat :=
  let c2000_i32_175_r0 : BitVec 32 := 2000#32
  let c5_i32_173_r0 : BitVec 32 := 5#32
  let true_11_r0 : BitVec 1 := 1#1
  let c1_i32_r0 : BitVec 32 := 1#32
  let c0_i32_12_r0 : BitVec 32 := 0#32
  let v14_r0 : BitVec 32 := Scalar.select true_11_r0 c1_i32_r0 c0_i32_12_r0
  let c10_i32_r0 : BitVec 32 := 10#32
  let v15_r0 : BitVec 1 := Scalar.cmpi .eq v14_r0 c10_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v181_r0 : BitVec 32 := Scalar.muli c5_i32_173_r0 v17_r0
  let c4_i32_174_r0 : BitVec 32 := 4#32
  let v182_r0 : BitVec 32 := Scalar.addi v181_r0 c4_i32_174_r0
  let v183_r0 : BitVec 32 := Scalar.muli c2000_i32_175_r0 v182_r0
  let c0_i32_178_r0 : BitVec 32 := 0#32
  ![v183_r0.toNat, 0]
@[reducible] def k0_t1_loop : Scf.Loop 32 :=
  let c0_i32_108_r0 : BitVec 32 := 0#32
  let c10_i32_109_r0 : BitVec 32 := 10#32
  let v108_r0 : BitVec 32 := Scalar.addi c0_i32_108_r0 c10_i32_109_r0
  let c1_i32_110_r0 : BitVec 32 := 1#32
  ⟨c0_i32_108_r0, v108_r0, c1_i32_110_r0⟩
def k0_off18 (arg8_r0 : BitVec 32) : Fin 1 → Nat :=
  let c3_i32_509_r0 : BitVec 32 := 3#32
  let v797_r0 : BitVec 32 := Scalar.remui arg8_r0 c3_i32_509_r0
  ![v797_r0.toNat]
def k0_cond6 (k0_t1 : Fin k0_t1_loop.trips) (arg28_r0 : BitVec 32) : BitVec 1 :=
  let c5_i32_195_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v203_r0 : BitVec 32 := Scalar.muli c5_i32_195_r0 v192_r0
  let c0_i32_196_r0 : BitVec 32 := 0#32
  let v204_r0 : BitVec 32 := Scalar.addi v203_r0 c0_i32_196_r0
  let c5_i32_197_r0 : BitVec 32 := 5#32
  let true_186_r0 : BitVec 1 := 1#1
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v205_r0 : BitVec 32 := Scalar.muli c5_i32_197_r0 v197_r0
  let c0_i32_198_r0 : BitVec 32 := 0#32
  let v206_r0 : BitVec 32 := Scalar.addi v205_r0 c0_i32_198_r0
  let v207_r0 : BitVec 1 := Scalar.cmpi .ne v204_r0 v206_r0
  let c0_i32_108_r0 : BitVec 32 := 0#32
  let c1_i32_110_r0 : BitVec 32 := 1#32
  let arg7_r0 : BitVec 32 := Scf.iv c0_i32_108_r0 c1_i32_110_r0 k0_t1
  let c8_i32_r0 : BitVec 32 := 8#32
  let v208_r0 : BitVec 1 := Scalar.cmpi .sge arg7_r0 c8_i32_r0
  let true_199_r0 : BitVec 1 := 1#1
  let v209_r0 : BitVec 1 := Scalar.xori v208_r0 true_199_r0
  let v210_r0 : BitVec 1 := Scalar.andi v207_r0 v209_r0
  let true_200_r0 : BitVec 1 := 1#1
  let v211_r0 : BitVec 1 := Scalar.andi v210_r0 true_200_r0
  let v212_r0 : BitVec 32 := Scalar.extui v211_r0
  let c0_i32_201_r0 : BitVec 32 := 0#32
  let v213_r0 : BitVec 1 := Scalar.cmpi .ne v212_r0 c0_i32_201_r0
  v213_r0

def k0_off19 (arg8_r0 : BitVec 32) : Fin 3 → Nat :=
  let c3_i32_509_r0 : BitVec 32 := 3#32
  let v797_r0 : BitVec 32 := Scalar.remui arg8_r0 c3_i32_509_r0
  let c0_i32_513_r0 : BitVec 32 := 0#32
  let c0_i32_514_r0 : BitVec 32 := 0#32
  ![v797_r0.toNat, 0, 0]
def k0_off20 (arg28_r0 : BitVec 32) : Fin 2 → Nat :=
  let c2000_i32_512_r0 : BitVec 32 := 2000#32
  let c5_i32_510_r0 : BitVec 32 := 5#32
  let true_186_r0 : BitVec 1 := 1#1
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v798_r0 : BitVec 32 := Scalar.muli c5_i32_510_r0 v197_r0
  let c0_i32_511_r0 : BitVec 32 := 0#32
  let v799_r0 : BitVec 32 := Scalar.addi v798_r0 c0_i32_511_r0
  let v800_r0 : BitVec 32 := Scalar.muli c2000_i32_512_r0 v799_r0
  let c0_i32_515_r0 : BitVec 32 := 0#32
  ![v800_r0.toNat, 0]
def k0_off21 (arg10_r0 : BitVec 32) : Fin 1 → Nat :=
  let c3_i32_509_r0 : BitVec 32 := 3#32
  let v797_r0 : BitVec 32 := Scalar.remui arg10_r0 c3_i32_509_r0
  ![v797_r0.toNat]
def k0_cond7 (k0_t1 : Fin k0_t1_loop.trips) (arg28_r0 : BitVec 32) : BitVec 1 :=
  let c5_i32_204_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v217_r0 : BitVec 32 := Scalar.muli c5_i32_204_r0 v192_r0
  let c1_i32_205_r0 : BitVec 32 := 1#32
  let v218_r0 : BitVec 32 := Scalar.addi v217_r0 c1_i32_205_r0
  let c5_i32_206_r0 : BitVec 32 := 5#32
  let true_186_r0 : BitVec 1 := 1#1
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v219_r0 : BitVec 32 := Scalar.muli c5_i32_206_r0 v197_r0
  let c1_i32_207_r0 : BitVec 32 := 1#32
  let v220_r0 : BitVec 32 := Scalar.addi v219_r0 c1_i32_207_r0
  let v221_r0 : BitVec 1 := Scalar.cmpi .ne v218_r0 v220_r0
  let c0_i32_108_r0 : BitVec 32 := 0#32
  let c1_i32_110_r0 : BitVec 32 := 1#32
  let arg7_r0 : BitVec 32 := Scf.iv c0_i32_108_r0 c1_i32_110_r0 k0_t1
  let c8_i32_208_r0 : BitVec 32 := 8#32
  let v222_r0 : BitVec 1 := Scalar.cmpi .sge arg7_r0 c8_i32_208_r0
  let true_209_r0 : BitVec 1 := 1#1
  let v223_r0 : BitVec 1 := Scalar.xori v222_r0 true_209_r0
  let v224_r0 : BitVec 1 := Scalar.andi v221_r0 v223_r0
  let true_210_r0 : BitVec 1 := 1#1
  let v225_r0 : BitVec 1 := Scalar.andi v224_r0 true_210_r0
  let v226_r0 : BitVec 32 := Scalar.extui v225_r0
  let c0_i32_211_r0 : BitVec 32 := 0#32
  let v227_r0 : BitVec 1 := Scalar.cmpi .ne v226_r0 c0_i32_211_r0
  v227_r0

def k0_off22 (arg10_r0 : BitVec 32) : Fin 3 → Nat :=
  let c3_i32_509_r0 : BitVec 32 := 3#32
  let v797_r0 : BitVec 32 := Scalar.remui arg10_r0 c3_i32_509_r0
  let c0_i32_513_r0 : BitVec 32 := 0#32
  let c0_i32_514_r0 : BitVec 32 := 0#32
  ![v797_r0.toNat, 0, 0]
def k0_off23 (arg28_r0 : BitVec 32) : Fin 2 → Nat :=
  let c2000_i32_512_r0 : BitVec 32 := 2000#32
  let c5_i32_510_r0 : BitVec 32 := 5#32
  let true_186_r0 : BitVec 1 := 1#1
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v798_r0 : BitVec 32 := Scalar.muli c5_i32_510_r0 v197_r0
  let c1_i32_511_r0 : BitVec 32 := 1#32
  let v799_r0 : BitVec 32 := Scalar.addi v798_r0 c1_i32_511_r0
  let v800_r0 : BitVec 32 := Scalar.muli c2000_i32_512_r0 v799_r0
  let c0_i32_515_r0 : BitVec 32 := 0#32
  ![v800_r0.toNat, 0]
def k0_off24 (arg12_r0 : BitVec 32) : Fin 1 → Nat :=
  let c3_i32_509_r0 : BitVec 32 := 3#32
  let v797_r0 : BitVec 32 := Scalar.remui arg12_r0 c3_i32_509_r0
  ![v797_r0.toNat]
def k0_cond8 (k0_t1 : Fin k0_t1_loop.trips) (arg28_r0 : BitVec 32) : BitVec 1 :=
  let c5_i32_214_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v231_r0 : BitVec 32 := Scalar.muli c5_i32_214_r0 v192_r0
  let c2_i32_215_r0 : BitVec 32 := 2#32
  let v232_r0 : BitVec 32 := Scalar.addi v231_r0 c2_i32_215_r0
  let c5_i32_216_r0 : BitVec 32 := 5#32
  let true_186_r0 : BitVec 1 := 1#1
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v233_r0 : BitVec 32 := Scalar.muli c5_i32_216_r0 v197_r0
  let c2_i32_217_r0 : BitVec 32 := 2#32
  let v234_r0 : BitVec 32 := Scalar.addi v233_r0 c2_i32_217_r0
  let v235_r0 : BitVec 1 := Scalar.cmpi .ne v232_r0 v234_r0
  let c0_i32_108_r0 : BitVec 32 := 0#32
  let c1_i32_110_r0 : BitVec 32 := 1#32
  let arg7_r0 : BitVec 32 := Scf.iv c0_i32_108_r0 c1_i32_110_r0 k0_t1
  let c8_i32_218_r0 : BitVec 32 := 8#32
  let v236_r0 : BitVec 1 := Scalar.cmpi .sge arg7_r0 c8_i32_218_r0
  let true_219_r0 : BitVec 1 := 1#1
  let v237_r0 : BitVec 1 := Scalar.xori v236_r0 true_219_r0
  let v238_r0 : BitVec 1 := Scalar.andi v235_r0 v237_r0
  let true_220_r0 : BitVec 1 := 1#1
  let v239_r0 : BitVec 1 := Scalar.andi v238_r0 true_220_r0
  let v240_r0 : BitVec 32 := Scalar.extui v239_r0
  let c0_i32_221_r0 : BitVec 32 := 0#32
  let v241_r0 : BitVec 1 := Scalar.cmpi .ne v240_r0 c0_i32_221_r0
  v241_r0

def k0_off25 (arg12_r0 : BitVec 32) : Fin 3 → Nat :=
  let c3_i32_509_r0 : BitVec 32 := 3#32
  let v797_r0 : BitVec 32 := Scalar.remui arg12_r0 c3_i32_509_r0
  let c0_i32_513_r0 : BitVec 32 := 0#32
  let c0_i32_514_r0 : BitVec 32 := 0#32
  ![v797_r0.toNat, 0, 0]
def k0_off26 (arg28_r0 : BitVec 32) : Fin 2 → Nat :=
  let c2000_i32_512_r0 : BitVec 32 := 2000#32
  let c5_i32_510_r0 : BitVec 32 := 5#32
  let true_186_r0 : BitVec 1 := 1#1
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v798_r0 : BitVec 32 := Scalar.muli c5_i32_510_r0 v197_r0
  let c2_i32_511_r0 : BitVec 32 := 2#32
  let v799_r0 : BitVec 32 := Scalar.addi v798_r0 c2_i32_511_r0
  let v800_r0 : BitVec 32 := Scalar.muli c2000_i32_512_r0 v799_r0
  let c0_i32_515_r0 : BitVec 32 := 0#32
  ![v800_r0.toNat, 0]
def k0_off27 (arg14_r0 : BitVec 32) : Fin 1 → Nat :=
  let c3_i32_509_r0 : BitVec 32 := 3#32
  let v797_r0 : BitVec 32 := Scalar.remui arg14_r0 c3_i32_509_r0
  ![v797_r0.toNat]
def k0_cond9 (k0_t1 : Fin k0_t1_loop.trips) (arg28_r0 : BitVec 32) : BitVec 1 :=
  let c5_i32_224_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v245_r0 : BitVec 32 := Scalar.muli c5_i32_224_r0 v192_r0
  let c3_i32_225_r0 : BitVec 32 := 3#32
  let v246_r0 : BitVec 32 := Scalar.addi v245_r0 c3_i32_225_r0
  let c5_i32_226_r0 : BitVec 32 := 5#32
  let true_186_r0 : BitVec 1 := 1#1
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v247_r0 : BitVec 32 := Scalar.muli c5_i32_226_r0 v197_r0
  let c3_i32_227_r0 : BitVec 32 := 3#32
  let v248_r0 : BitVec 32 := Scalar.addi v247_r0 c3_i32_227_r0
  let v249_r0 : BitVec 1 := Scalar.cmpi .ne v246_r0 v248_r0
  let c0_i32_108_r0 : BitVec 32 := 0#32
  let c1_i32_110_r0 : BitVec 32 := 1#32
  let arg7_r0 : BitVec 32 := Scf.iv c0_i32_108_r0 c1_i32_110_r0 k0_t1
  let c8_i32_228_r0 : BitVec 32 := 8#32
  let v250_r0 : BitVec 1 := Scalar.cmpi .sge arg7_r0 c8_i32_228_r0
  let true_229_r0 : BitVec 1 := 1#1
  let v251_r0 : BitVec 1 := Scalar.xori v250_r0 true_229_r0
  let v252_r0 : BitVec 1 := Scalar.andi v249_r0 v251_r0
  let true_230_r0 : BitVec 1 := 1#1
  let v253_r0 : BitVec 1 := Scalar.andi v252_r0 true_230_r0
  let v254_r0 : BitVec 32 := Scalar.extui v253_r0
  let c0_i32_231_r0 : BitVec 32 := 0#32
  let v255_r0 : BitVec 1 := Scalar.cmpi .ne v254_r0 c0_i32_231_r0
  v255_r0

def k0_off28 (arg14_r0 : BitVec 32) : Fin 3 → Nat :=
  let c3_i32_509_r0 : BitVec 32 := 3#32
  let v797_r0 : BitVec 32 := Scalar.remui arg14_r0 c3_i32_509_r0
  let c0_i32_513_r0 : BitVec 32 := 0#32
  let c0_i32_514_r0 : BitVec 32 := 0#32
  ![v797_r0.toNat, 0, 0]
def k0_off29 (arg28_r0 : BitVec 32) : Fin 2 → Nat :=
  let c2000_i32_512_r0 : BitVec 32 := 2000#32
  let c5_i32_510_r0 : BitVec 32 := 5#32
  let true_186_r0 : BitVec 1 := 1#1
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v798_r0 : BitVec 32 := Scalar.muli c5_i32_510_r0 v197_r0
  let c3_i32_511_r0 : BitVec 32 := 3#32
  let v799_r0 : BitVec 32 := Scalar.addi v798_r0 c3_i32_511_r0
  let v800_r0 : BitVec 32 := Scalar.muli c2000_i32_512_r0 v799_r0
  let c0_i32_515_r0 : BitVec 32 := 0#32
  ![v800_r0.toNat, 0]
def k0_off30 (arg16_r0 : BitVec 32) : Fin 1 → Nat :=
  let c3_i32_509_r0 : BitVec 32 := 3#32
  let v797_r0 : BitVec 32 := Scalar.remui arg16_r0 c3_i32_509_r0
  ![v797_r0.toNat]
def k0_cond10 (k0_t1 : Fin k0_t1_loop.trips) (arg28_r0 : BitVec 32) : BitVec 1 :=
  let c5_i32_234_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v259_r0 : BitVec 32 := Scalar.muli c5_i32_234_r0 v192_r0
  let c4_i32_235_r0 : BitVec 32 := 4#32
  let v260_r0 : BitVec 32 := Scalar.addi v259_r0 c4_i32_235_r0
  let c5_i32_236_r0 : BitVec 32 := 5#32
  let true_186_r0 : BitVec 1 := 1#1
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v261_r0 : BitVec 32 := Scalar.muli c5_i32_236_r0 v197_r0
  let c4_i32_237_r0 : BitVec 32 := 4#32
  let v262_r0 : BitVec 32 := Scalar.addi v261_r0 c4_i32_237_r0
  let v263_r0 : BitVec 1 := Scalar.cmpi .ne v260_r0 v262_r0
  let c0_i32_108_r0 : BitVec 32 := 0#32
  let c1_i32_110_r0 : BitVec 32 := 1#32
  let arg7_r0 : BitVec 32 := Scf.iv c0_i32_108_r0 c1_i32_110_r0 k0_t1
  let c8_i32_238_r0 : BitVec 32 := 8#32
  let v264_r0 : BitVec 1 := Scalar.cmpi .sge arg7_r0 c8_i32_238_r0
  let true_239_r0 : BitVec 1 := 1#1
  let v265_r0 : BitVec 1 := Scalar.xori v264_r0 true_239_r0
  let v266_r0 : BitVec 1 := Scalar.andi v263_r0 v265_r0
  let true_240_r0 : BitVec 1 := 1#1
  let v267_r0 : BitVec 1 := Scalar.andi v266_r0 true_240_r0
  let v268_r0 : BitVec 32 := Scalar.extui v267_r0
  let c0_i32_241_r0 : BitVec 32 := 0#32
  let v269_r0 : BitVec 1 := Scalar.cmpi .ne v268_r0 c0_i32_241_r0
  v269_r0

def k0_off31 (arg16_r0 : BitVec 32) : Fin 3 → Nat :=
  let c3_i32_509_r0 : BitVec 32 := 3#32
  let v797_r0 : BitVec 32 := Scalar.remui arg16_r0 c3_i32_509_r0
  let c0_i32_513_r0 : BitVec 32 := 0#32
  let c0_i32_514_r0 : BitVec 32 := 0#32
  ![v797_r0.toNat, 0, 0]
def k0_off32 (arg28_r0 : BitVec 32) : Fin 2 → Nat :=
  let c2000_i32_512_r0 : BitVec 32 := 2000#32
  let c5_i32_510_r0 : BitVec 32 := 5#32
  let true_186_r0 : BitVec 1 := 1#1
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c1_i32_185_r0 : BitVec 32 := 1#32
  let v193_r0 : BitVec 32 := Scalar.addi v191_r0 c1_i32_185_r0
  let v194_r0 : BitVec 32 := Scalar.select true_186_r0 v193_r0 v191_r0
  let c10_i32_187_r0 : BitVec 32 := 10#32
  let v195_r0 : BitVec 1 := Scalar.cmpi .eq v194_r0 c10_i32_187_r0
  let c0_i32_188_r0 : BitVec 32 := 0#32
  let v196_r0 : BitVec 32 := Scalar.select v195_r0 c0_i32_188_r0 v194_r0
  let c0_i32_189_r0 : BitVec 32 := 0#32
  let v197_r0 : BitVec 32 := Scalar.addi v196_r0 c0_i32_189_r0
  let v798_r0 : BitVec 32 := Scalar.muli c5_i32_510_r0 v197_r0
  let c4_i32_511_r0 : BitVec 32 := 4#32
  let v799_r0 : BitVec 32 := Scalar.addi v798_r0 c4_i32_511_r0
  let v800_r0 : BitVec 32 := Scalar.muli c2000_i32_512_r0 v799_r0
  let c0_i32_515_r0 : BitVec 32 := 0#32
  ![v800_r0.toNat, 0]
def k0_off33 (arg9_r0 : BitVec 32) : Fin 1 → Nat :=
  let c3_i32_512_r0 : BitVec 32 := 3#32
  let v800_r0 : BitVec 32 := Scalar.remui arg9_r0 c3_i32_512_r0
  ![v800_r0.toNat]
def k0_cond11 (k0_t1 : Fin k0_t1_loop.trips) (arg28_r0 : BitVec 32) : BitVec 1 :=
  let c5_i32_274_r0 : BitVec 32 := 5#32
  let c0_i32_174_r0 : BitVec 32 := 0#32
  let v182_r0 : BitVec 32 := Scalar.addi arg28_r0 c0_i32_174_r0
  let v313_r0 : BitVec 32 := Scalar.muli c5_i32_274_r0 v182_r0
  let c0_i32_275_r0 : BitVec 32 := 0#32
  let v314_r0 : BitVec 32 := Scalar.addi v313_r0 c0_i32_275_r0
  let c5_i32_276_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v315_r0 : BitVec 32 := Scalar.muli c5_i32_276_r0 v187_r0
  let c0_i32_277_r0 : BitVec 32 := 0#32
  let v316_r0 : BitVec 32 := Scalar.addi v315_r0 c0_i32_277_r0
  let v317_r0 : BitVec 1 := Scalar.cmpi .ne v314_r0 v316_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let v318_r0 : BitVec 1 := Scalar.ori v317_r0 v180_r0
  let c0_i32_278_r0 : BitVec 32 := 0#32
  let v319_r0 : BitVec 1 := Scalar.cmpi .sge arg7_r0 c0_i32_278_r0
  let v320_r0 : BitVec 1 := Scalar.andi v318_r0 v319_r0
  let v321_r0 : BitVec 32 := Scalar.extui v320_r0
  let c0_i32_279_r0 : BitVec 32 := 0#32
  let v322_r0 : BitVec 1 := Scalar.cmpi .ne v321_r0 c0_i32_279_r0
  v322_r0

def k0_off34 (arg9_r0 : BitVec 32) : Fin 3 → Nat :=
  let c3_i32_512_r0 : BitVec 32 := 3#32
  let v800_r0 : BitVec 32 := Scalar.remui arg9_r0 c3_i32_512_r0
  let c0_i32_513_r0 : BitVec 32 := 0#32
  let c0_i32_514_r0 : BitVec 32 := 0#32
  ![v800_r0.toNat, 0, 0]
def k0_off35 (arg28_r0 : BitVec 32) : Fin 2 → Nat :=
  let c2000_i32_511_r0 : BitVec 32 := 2000#32
  let c5_i32_509_r0 : BitVec 32 := 5#32
  let c0_i32_174_r0 : BitVec 32 := 0#32
  let v182_r0 : BitVec 32 := Scalar.addi arg28_r0 c0_i32_174_r0
  let v797_r0 : BitVec 32 := Scalar.muli c5_i32_509_r0 v182_r0
  let c0_i32_510_r0 : BitVec 32 := 0#32
  let v798_r0 : BitVec 32 := Scalar.addi v797_r0 c0_i32_510_r0
  let v799_r0 : BitVec 32 := Scalar.muli c2000_i32_511_r0 v798_r0
  let c0_i32_515_r0 : BitVec 32 := 0#32
  ![v799_r0.toNat, 0]
def k0_off36 (arg11_r0 : BitVec 32) : Fin 1 → Nat :=
  let c3_i32_512_r0 : BitVec 32 := 3#32
  let v800_r0 : BitVec 32 := Scalar.remui arg11_r0 c3_i32_512_r0
  ![v800_r0.toNat]
def k0_cond12 (k0_t1 : Fin k0_t1_loop.trips) (arg28_r0 : BitVec 32) : BitVec 1 :=
  let c5_i32_280_r0 : BitVec 32 := 5#32
  let c0_i32_174_r0 : BitVec 32 := 0#32
  let v182_r0 : BitVec 32 := Scalar.addi arg28_r0 c0_i32_174_r0
  let v323_r0 : BitVec 32 := Scalar.muli c5_i32_280_r0 v182_r0
  let c1_i32_281_r0 : BitVec 32 := 1#32
  let v324_r0 : BitVec 32 := Scalar.addi v323_r0 c1_i32_281_r0
  let c5_i32_282_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v325_r0 : BitVec 32 := Scalar.muli c5_i32_282_r0 v187_r0
  let c1_i32_283_r0 : BitVec 32 := 1#32
  let v326_r0 : BitVec 32 := Scalar.addi v325_r0 c1_i32_283_r0
  let v327_r0 : BitVec 1 := Scalar.cmpi .ne v324_r0 v326_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let v328_r0 : BitVec 1 := Scalar.ori v327_r0 v180_r0
  let c0_i32_284_r0 : BitVec 32 := 0#32
  let v329_r0 : BitVec 1 := Scalar.cmpi .sge arg7_r0 c0_i32_284_r0
  let v330_r0 : BitVec 1 := Scalar.andi v328_r0 v329_r0
  let v331_r0 : BitVec 32 := Scalar.extui v330_r0
  let c0_i32_285_r0 : BitVec 32 := 0#32
  let v332_r0 : BitVec 1 := Scalar.cmpi .ne v331_r0 c0_i32_285_r0
  v332_r0

def k0_off37 (arg11_r0 : BitVec 32) : Fin 3 → Nat :=
  let c3_i32_512_r0 : BitVec 32 := 3#32
  let v800_r0 : BitVec 32 := Scalar.remui arg11_r0 c3_i32_512_r0
  let c0_i32_513_r0 : BitVec 32 := 0#32
  let c0_i32_514_r0 : BitVec 32 := 0#32
  ![v800_r0.toNat, 0, 0]
def k0_off38 (arg28_r0 : BitVec 32) : Fin 2 → Nat :=
  let c2000_i32_511_r0 : BitVec 32 := 2000#32
  let c5_i32_509_r0 : BitVec 32 := 5#32
  let c0_i32_174_r0 : BitVec 32 := 0#32
  let v182_r0 : BitVec 32 := Scalar.addi arg28_r0 c0_i32_174_r0
  let v797_r0 : BitVec 32 := Scalar.muli c5_i32_509_r0 v182_r0
  let c1_i32_510_r0 : BitVec 32 := 1#32
  let v798_r0 : BitVec 32 := Scalar.addi v797_r0 c1_i32_510_r0
  let v799_r0 : BitVec 32 := Scalar.muli c2000_i32_511_r0 v798_r0
  let c0_i32_515_r0 : BitVec 32 := 0#32
  ![v799_r0.toNat, 0]
def k0_off39 (arg13_r0 : BitVec 32) : Fin 1 → Nat :=
  let c3_i32_512_r0 : BitVec 32 := 3#32
  let v800_r0 : BitVec 32 := Scalar.remui arg13_r0 c3_i32_512_r0
  ![v800_r0.toNat]
def k0_cond13 (k0_t1 : Fin k0_t1_loop.trips) (arg28_r0 : BitVec 32) : BitVec 1 :=
  let c5_i32_286_r0 : BitVec 32 := 5#32
  let c0_i32_174_r0 : BitVec 32 := 0#32
  let v182_r0 : BitVec 32 := Scalar.addi arg28_r0 c0_i32_174_r0
  let v333_r0 : BitVec 32 := Scalar.muli c5_i32_286_r0 v182_r0
  let c2_i32_287_r0 : BitVec 32 := 2#32
  let v334_r0 : BitVec 32 := Scalar.addi v333_r0 c2_i32_287_r0
  let c5_i32_288_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v335_r0 : BitVec 32 := Scalar.muli c5_i32_288_r0 v187_r0
  let c2_i32_289_r0 : BitVec 32 := 2#32
  let v336_r0 : BitVec 32 := Scalar.addi v335_r0 c2_i32_289_r0
  let v337_r0 : BitVec 1 := Scalar.cmpi .ne v334_r0 v336_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let v338_r0 : BitVec 1 := Scalar.ori v337_r0 v180_r0
  let c0_i32_290_r0 : BitVec 32 := 0#32
  let v339_r0 : BitVec 1 := Scalar.cmpi .sge arg7_r0 c0_i32_290_r0
  let v340_r0 : BitVec 1 := Scalar.andi v338_r0 v339_r0
  let v341_r0 : BitVec 32 := Scalar.extui v340_r0
  let c0_i32_291_r0 : BitVec 32 := 0#32
  let v342_r0 : BitVec 1 := Scalar.cmpi .ne v341_r0 c0_i32_291_r0
  v342_r0

def k0_off40 (arg13_r0 : BitVec 32) : Fin 3 → Nat :=
  let c3_i32_512_r0 : BitVec 32 := 3#32
  let v800_r0 : BitVec 32 := Scalar.remui arg13_r0 c3_i32_512_r0
  let c0_i32_513_r0 : BitVec 32 := 0#32
  let c0_i32_514_r0 : BitVec 32 := 0#32
  ![v800_r0.toNat, 0, 0]
def k0_off41 (arg28_r0 : BitVec 32) : Fin 2 → Nat :=
  let c2000_i32_511_r0 : BitVec 32 := 2000#32
  let c5_i32_509_r0 : BitVec 32 := 5#32
  let c0_i32_174_r0 : BitVec 32 := 0#32
  let v182_r0 : BitVec 32 := Scalar.addi arg28_r0 c0_i32_174_r0
  let v797_r0 : BitVec 32 := Scalar.muli c5_i32_509_r0 v182_r0
  let c2_i32_510_r0 : BitVec 32 := 2#32
  let v798_r0 : BitVec 32 := Scalar.addi v797_r0 c2_i32_510_r0
  let v799_r0 : BitVec 32 := Scalar.muli c2000_i32_511_r0 v798_r0
  let c0_i32_515_r0 : BitVec 32 := 0#32
  ![v799_r0.toNat, 0]
def k0_off42 (arg15_r0 : BitVec 32) : Fin 1 → Nat :=
  let c3_i32_512_r0 : BitVec 32 := 3#32
  let v800_r0 : BitVec 32 := Scalar.remui arg15_r0 c3_i32_512_r0
  ![v800_r0.toNat]
def k0_cond14 (k0_t1 : Fin k0_t1_loop.trips) (arg28_r0 : BitVec 32) : BitVec 1 :=
  let c5_i32_292_r0 : BitVec 32 := 5#32
  let c0_i32_174_r0 : BitVec 32 := 0#32
  let v182_r0 : BitVec 32 := Scalar.addi arg28_r0 c0_i32_174_r0
  let v343_r0 : BitVec 32 := Scalar.muli c5_i32_292_r0 v182_r0
  let c3_i32_293_r0 : BitVec 32 := 3#32
  let v344_r0 : BitVec 32 := Scalar.addi v343_r0 c3_i32_293_r0
  let c5_i32_294_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v345_r0 : BitVec 32 := Scalar.muli c5_i32_294_r0 v187_r0
  let c3_i32_295_r0 : BitVec 32 := 3#32
  let v346_r0 : BitVec 32 := Scalar.addi v345_r0 c3_i32_295_r0
  let v347_r0 : BitVec 1 := Scalar.cmpi .ne v344_r0 v346_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let v348_r0 : BitVec 1 := Scalar.ori v347_r0 v180_r0
  let c0_i32_296_r0 : BitVec 32 := 0#32
  let v349_r0 : BitVec 1 := Scalar.cmpi .sge arg7_r0 c0_i32_296_r0
  let v350_r0 : BitVec 1 := Scalar.andi v348_r0 v349_r0
  let v351_r0 : BitVec 32 := Scalar.extui v350_r0
  let c0_i32_297_r0 : BitVec 32 := 0#32
  let v352_r0 : BitVec 1 := Scalar.cmpi .ne v351_r0 c0_i32_297_r0
  v352_r0

def k0_off43 (arg15_r0 : BitVec 32) : Fin 3 → Nat :=
  let c3_i32_512_r0 : BitVec 32 := 3#32
  let v800_r0 : BitVec 32 := Scalar.remui arg15_r0 c3_i32_512_r0
  let c0_i32_513_r0 : BitVec 32 := 0#32
  let c0_i32_514_r0 : BitVec 32 := 0#32
  ![v800_r0.toNat, 0, 0]
def k0_off44 (arg28_r0 : BitVec 32) : Fin 2 → Nat :=
  let c2000_i32_511_r0 : BitVec 32 := 2000#32
  let c5_i32_509_r0 : BitVec 32 := 5#32
  let c0_i32_174_r0 : BitVec 32 := 0#32
  let v182_r0 : BitVec 32 := Scalar.addi arg28_r0 c0_i32_174_r0
  let v797_r0 : BitVec 32 := Scalar.muli c5_i32_509_r0 v182_r0
  let c3_i32_510_r0 : BitVec 32 := 3#32
  let v798_r0 : BitVec 32 := Scalar.addi v797_r0 c3_i32_510_r0
  let v799_r0 : BitVec 32 := Scalar.muli c2000_i32_511_r0 v798_r0
  let c0_i32_515_r0 : BitVec 32 := 0#32
  ![v799_r0.toNat, 0]
def k0_off45 (arg17_r0 : BitVec 32) : Fin 1 → Nat :=
  let c3_i32_512_r0 : BitVec 32 := 3#32
  let v800_r0 : BitVec 32 := Scalar.remui arg17_r0 c3_i32_512_r0
  ![v800_r0.toNat]
def k0_cond15 (k0_t1 : Fin k0_t1_loop.trips) (arg28_r0 : BitVec 32) : BitVec 1 :=
  let c5_i32_298_r0 : BitVec 32 := 5#32
  let c0_i32_174_r0 : BitVec 32 := 0#32
  let v182_r0 : BitVec 32 := Scalar.addi arg28_r0 c0_i32_174_r0
  let v353_r0 : BitVec 32 := Scalar.muli c5_i32_298_r0 v182_r0
  let c4_i32_299_r0 : BitVec 32 := 4#32
  let v354_r0 : BitVec 32 := Scalar.addi v353_r0 c4_i32_299_r0
  let c5_i32_300_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v355_r0 : BitVec 32 := Scalar.muli c5_i32_300_r0 v187_r0
  let c4_i32_301_r0 : BitVec 32 := 4#32
  let v356_r0 : BitVec 32 := Scalar.addi v355_r0 c4_i32_301_r0
  let v357_r0 : BitVec 1 := Scalar.cmpi .ne v354_r0 v356_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let v358_r0 : BitVec 1 := Scalar.ori v357_r0 v180_r0
  let c0_i32_302_r0 : BitVec 32 := 0#32
  let v359_r0 : BitVec 1 := Scalar.cmpi .sge arg7_r0 c0_i32_302_r0
  let v360_r0 : BitVec 1 := Scalar.andi v358_r0 v359_r0
  let v361_r0 : BitVec 32 := Scalar.extui v360_r0
  let c0_i32_303_r0 : BitVec 32 := 0#32
  let v362_r0 : BitVec 1 := Scalar.cmpi .ne v361_r0 c0_i32_303_r0
  v362_r0

def k0_off46 (arg17_r0 : BitVec 32) : Fin 3 → Nat :=
  let c3_i32_512_r0 : BitVec 32 := 3#32
  let v800_r0 : BitVec 32 := Scalar.remui arg17_r0 c3_i32_512_r0
  let c0_i32_513_r0 : BitVec 32 := 0#32
  let c0_i32_514_r0 : BitVec 32 := 0#32
  ![v800_r0.toNat, 0, 0]
def k0_off47 (arg28_r0 : BitVec 32) : Fin 2 → Nat :=
  let c2000_i32_511_r0 : BitVec 32 := 2000#32
  let c5_i32_509_r0 : BitVec 32 := 5#32
  let c0_i32_174_r0 : BitVec 32 := 0#32
  let v182_r0 : BitVec 32 := Scalar.addi arg28_r0 c0_i32_174_r0
  let v797_r0 : BitVec 32 := Scalar.muli c5_i32_509_r0 v182_r0
  let c4_i32_510_r0 : BitVec 32 := 4#32
  let v798_r0 : BitVec 32 := Scalar.addi v797_r0 c4_i32_510_r0
  let v799_r0 : BitVec 32 := Scalar.muli c2000_i32_511_r0 v798_r0
  let c0_i32_515_r0 : BitVec 32 := 0#32
  ![v799_r0.toNat, 0]
def k0_off48 (arg9_r0 : BitVec 32) : Fin 3 → Nat :=
  let c3_i32_324_r0 : BitVec 32 := 3#32
  let v403_r0 : BitVec 32 := Scalar.remui arg9_r0 c3_i32_324_r0
  let v413_r0 : Index := Scalar.indexCast v403_r0
  let c0_r0 : Index := 0#32
  let c0_334_r0 : Index := 0#32
  ![v413_r0.toNat, 0, 0]

def k0_chk2 (arg9_r0 : BitVec 32) : Prop :=
  (∀ a, (k0_off48 arg9_r0) a + S1x2000x129.size a ≤ S3x2000x129.size a)
theorem k0_off48_inb : ∀ (arg9_r0 : BitVec 32) (k0_hw2 : k0_chk2 arg9_r0), ∀ a, (k0_off48 arg9_r0) a + S1x2000x129.size a ≤ S3x2000x129.size a := fun arg9_r0 k0_hw2 => k0_hw2

def k0_off49 (arg18_r0 : BitVec 32) : Fin 3 → Nat :=
  let c2_i32_329_r0 : BitVec 32 := 2#32
  let v408_r0 : BitVec 32 := Scalar.remui arg18_r0 c2_i32_329_r0
  let v455_r0 : Index := Scalar.indexCast v408_r0
  let c0_351_r0 : Index := 0#32
  let c0_352_r0 : Index := 0#32
  ![v455_r0.toNat, 0, 0]

def k0_chk3 (arg18_r0 : BitVec 32) : Prop :=
  (∀ a, (k0_off49 arg18_r0) a + S1x2000x128.size a ≤ S2x2000x128.size a)
theorem k0_off49_inb : ∀ (arg18_r0 : BitVec 32) (k0_hw3 : k0_chk3 arg18_r0), ∀ a, (k0_off49 arg18_r0) a + S1x2000x128.size a ≤ S2x2000x128.size a := fun arg18_r0 k0_hw3 => k0_hw3

def k0_off50 (arg11_r0 : BitVec 32) : Fin 3 → Nat :=
  let c3_i32_325_r0 : BitVec 32 := 3#32
  let v404_r0 : BitVec 32 := Scalar.remui arg11_r0 c3_i32_325_r0
  let v459_r0 : Index := Scalar.indexCast v404_r0
  let c0_353_r0 : Index := 0#32
  let c0_354_r0 : Index := 0#32
  ![v459_r0.toNat, 0, 0]

def k0_chk4 (arg11_r0 : BitVec 32) : Prop :=
  (∀ a, (k0_off50 arg11_r0) a + S1x2000x129.size a ≤ S3x2000x129.size a)
theorem k0_off50_inb : ∀ (arg11_r0 : BitVec 32) (k0_hw4 : k0_chk4 arg11_r0), ∀ a, (k0_off50 arg11_r0) a + S1x2000x129.size a ≤ S3x2000x129.size a := fun arg11_r0 k0_hw4 => k0_hw4

def k0_off51 (arg20_r0 : BitVec 32) : Fin 3 → Nat :=
  let c2_i32_330_r0 : BitVec 32 := 2#32
  let v409_r0 : BitVec 32 := Scalar.remui arg20_r0 c2_i32_330_r0
  let v501_r0 : Index := Scalar.indexCast v409_r0
  let c0_373_r0 : Index := 0#32
  let c0_374_r0 : Index := 0#32
  ![v501_r0.toNat, 0, 0]

def k0_chk5 (arg20_r0 : BitVec 32) : Prop :=
  (∀ a, (k0_off51 arg20_r0) a + S1x2000x128.size a ≤ S2x2000x128.size a)
theorem k0_off51_inb : ∀ (arg20_r0 : BitVec 32) (k0_hw5 : k0_chk5 arg20_r0), ∀ a, (k0_off51 arg20_r0) a + S1x2000x128.size a ≤ S2x2000x128.size a := fun arg20_r0 k0_hw5 => k0_hw5

def k0_off52 (arg13_r0 : BitVec 32) : Fin 3 → Nat :=
  let c3_i32_326_r0 : BitVec 32 := 3#32
  let v405_r0 : BitVec 32 := Scalar.remui arg13_r0 c3_i32_326_r0
  let v505_r0 : Index := Scalar.indexCast v405_r0
  let c0_375_r0 : Index := 0#32
  let c0_376_r0 : Index := 0#32
  ![v505_r0.toNat, 0, 0]

def k0_chk6 (arg13_r0 : BitVec 32) : Prop :=
  (∀ a, (k0_off52 arg13_r0) a + S1x2000x129.size a ≤ S3x2000x129.size a)
theorem k0_off52_inb : ∀ (arg13_r0 : BitVec 32) (k0_hw6 : k0_chk6 arg13_r0), ∀ a, (k0_off52 arg13_r0) a + S1x2000x129.size a ≤ S3x2000x129.size a := fun arg13_r0 k0_hw6 => k0_hw6

def k0_off53 (arg22_r0 : BitVec 32) : Fin 3 → Nat :=
  let c2_i32_331_r0 : BitVec 32 := 2#32
  let v410_r0 : BitVec 32 := Scalar.remui arg22_r0 c2_i32_331_r0
  let v547_r0 : Index := Scalar.indexCast v410_r0
  let c0_395_r0 : Index := 0#32
  let c0_396_r0 : Index := 0#32
  ![v547_r0.toNat, 0, 0]

def k0_chk7 (arg22_r0 : BitVec 32) : Prop :=
  (∀ a, (k0_off53 arg22_r0) a + S1x2000x128.size a ≤ S2x2000x128.size a)
theorem k0_off53_inb : ∀ (arg22_r0 : BitVec 32) (k0_hw7 : k0_chk7 arg22_r0), ∀ a, (k0_off53 arg22_r0) a + S1x2000x128.size a ≤ S2x2000x128.size a := fun arg22_r0 k0_hw7 => k0_hw7

def k0_off54 (arg15_r0 : BitVec 32) : Fin 3 → Nat :=
  let c3_i32_327_r0 : BitVec 32 := 3#32
  let v406_r0 : BitVec 32 := Scalar.remui arg15_r0 c3_i32_327_r0
  let v551_r0 : Index := Scalar.indexCast v406_r0
  let c0_397_r0 : Index := 0#32
  let c0_398_r0 : Index := 0#32
  ![v551_r0.toNat, 0, 0]

def k0_chk8 (arg15_r0 : BitVec 32) : Prop :=
  (∀ a, (k0_off54 arg15_r0) a + S1x2000x129.size a ≤ S3x2000x129.size a)
theorem k0_off54_inb : ∀ (arg15_r0 : BitVec 32) (k0_hw8 : k0_chk8 arg15_r0), ∀ a, (k0_off54 arg15_r0) a + S1x2000x129.size a ≤ S3x2000x129.size a := fun arg15_r0 k0_hw8 => k0_hw8

def k0_off55 (arg24_r0 : BitVec 32) : Fin 3 → Nat :=
  let c2_i32_332_r0 : BitVec 32 := 2#32
  let v411_r0 : BitVec 32 := Scalar.remui arg24_r0 c2_i32_332_r0
  let v593_r0 : Index := Scalar.indexCast v411_r0
  let c0_417_r0 : Index := 0#32
  let c0_418_r0 : Index := 0#32
  ![v593_r0.toNat, 0, 0]

def k0_chk9 (arg24_r0 : BitVec 32) : Prop :=
  (∀ a, (k0_off55 arg24_r0) a + S1x2000x128.size a ≤ S2x2000x128.size a)
theorem k0_off55_inb : ∀ (arg24_r0 : BitVec 32) (k0_hw9 : k0_chk9 arg24_r0), ∀ a, (k0_off55 arg24_r0) a + S1x2000x128.size a ≤ S2x2000x128.size a := fun arg24_r0 k0_hw9 => k0_hw9

def k0_off56 (arg17_r0 : BitVec 32) : Fin 3 → Nat :=
  let c3_i32_328_r0 : BitVec 32 := 3#32
  let v407_r0 : BitVec 32 := Scalar.remui arg17_r0 c3_i32_328_r0
  let v597_r0 : Index := Scalar.indexCast v407_r0
  let c0_419_r0 : Index := 0#32
  let c0_420_r0 : Index := 0#32
  ![v597_r0.toNat, 0, 0]

def k0_chk10 (arg17_r0 : BitVec 32) : Prop :=
  (∀ a, (k0_off56 arg17_r0) a + S1x2000x129.size a ≤ S3x2000x129.size a)
theorem k0_off56_inb : ∀ (arg17_r0 : BitVec 32) (k0_hw10 : k0_chk10 arg17_r0), ∀ a, (k0_off56 arg17_r0) a + S1x2000x129.size a ≤ S3x2000x129.size a := fun arg17_r0 k0_hw10 => k0_hw10

def k0_off57 (arg26_r0 : BitVec 32) : Fin 3 → Nat :=
  let c2_i32_333_r0 : BitVec 32 := 2#32
  let v412_r0 : BitVec 32 := Scalar.remui arg26_r0 c2_i32_333_r0
  let v639_r0 : Index := Scalar.indexCast v412_r0
  let c0_439_r0 : Index := 0#32
  let c0_440_r0 : Index := 0#32
  ![v639_r0.toNat, 0, 0]

def k0_chk11 (arg26_r0 : BitVec 32) : Prop :=
  (∀ a, (k0_off57 arg26_r0) a + S1x2000x128.size a ≤ S2x2000x128.size a)
theorem k0_off57_inb : ∀ (arg26_r0 : BitVec 32) (k0_hw11 : k0_chk11 arg26_r0), ∀ a, (k0_off57 arg26_r0) a + S1x2000x128.size a ≤ S2x2000x128.size a := fun arg26_r0 k0_hw11 => k0_hw11

def k0_off58 (arg18_r0 : BitVec 32) : Fin 1 → Nat :=
  let c2_i32_509_r0 : BitVec 32 := 2#32
  let v797_r0 : BitVec 32 := Scalar.remui arg18_r0 c2_i32_509_r0
  ![v797_r0.toNat]
def k0_cond26 (k0_t1 : Fin k0_t1_loop.trips) (arg28_r0 : BitVec 32) : BitVec 1 :=
  let c5_i32_244_r0 : BitVec 32 := 5#32
  let c0_i32_174_r0 : BitVec 32 := 0#32
  let v182_r0 : BitVec 32 := Scalar.addi arg28_r0 c0_i32_174_r0
  let v273_r0 : BitVec 32 := Scalar.muli c5_i32_244_r0 v182_r0
  let c0_i32_245_r0 : BitVec 32 := 0#32
  let v274_r0 : BitVec 32 := Scalar.addi v273_r0 c0_i32_245_r0
  let c5_i32_246_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v275_r0 : BitVec 32 := Scalar.muli c5_i32_246_r0 v192_r0
  let c0_i32_247_r0 : BitVec 32 := 0#32
  let v276_r0 : BitVec 32 := Scalar.addi v275_r0 c0_i32_247_r0
  let v668_r0 : BitVec 1 := Scalar.cmpi .ne v274_r0 v276_r0
  let c0_i32_108_r0 : BitVec 32 := 0#32
  let c1_i32_110_r0 : BitVec 32 := 1#32
  let arg7_r0 : BitVec 32 := Scf.iv c0_i32_108_r0 c1_i32_110_r0 k0_t1
  let c9_i32_173_r0 : BitVec 32 := 9#32
  let v181_r0 : BitVec 1 := Scalar.cmpi .eq arg7_r0 c9_i32_173_r0
  let v669_r0 : BitVec 1 := Scalar.ori v668_r0 v181_r0
  let v670_r0 : BitVec 32 := Scalar.extui v669_r0
  let c0_i32_450_r0 : BitVec 32 := 0#32
  let v671_r0 : BitVec 1 := Scalar.cmpi .ne v670_r0 c0_i32_450_r0
  v671_r0

def k0_off59 (arg28_r0 : BitVec 32) : Fin 2 → Nat :=
  let c2000_i32_512_r0 : BitVec 32 := 2000#32
  let c5_i32_510_r0 : BitVec 32 := 5#32
  let c0_i32_174_r0 : BitVec 32 := 0#32
  let v182_r0 : BitVec 32 := Scalar.addi arg28_r0 c0_i32_174_r0
  let v798_r0 : BitVec 32 := Scalar.muli c5_i32_510_r0 v182_r0
  let c0_i32_511_r0 : BitVec 32 := 0#32
  let v799_r0 : BitVec 32 := Scalar.addi v798_r0 c0_i32_511_r0
  let v800_r0 : BitVec 32 := Scalar.muli c2000_i32_512_r0 v799_r0
  let c0_i32_513_r0 : BitVec 32 := 0#32
  ![v800_r0.toNat, 0]
def k0_off60 (arg18_r0 : BitVec 32) : Fin 3 → Nat :=
  let c2_i32_509_r0 : BitVec 32 := 2#32
  let v797_r0 : BitVec 32 := Scalar.remui arg18_r0 c2_i32_509_r0
  let c0_i32_514_r0 : BitVec 32 := 0#32
  let c0_i32_515_r0 : BitVec 32 := 0#32
  ![v797_r0.toNat, 0, 0]
def k0_off61 (arg20_r0 : BitVec 32) : Fin 1 → Nat :=
  let c2_i32_509_r0 : BitVec 32 := 2#32
  let v797_r0 : BitVec 32 := Scalar.remui arg20_r0 c2_i32_509_r0
  ![v797_r0.toNat]
def k0_cond27 (k0_t1 : Fin k0_t1_loop.trips) (arg28_r0 : BitVec 32) : BitVec 1 :=
  let c5_i32_250_r0 : BitVec 32 := 5#32
  let c0_i32_174_r0 : BitVec 32 := 0#32
  let v182_r0 : BitVec 32 := Scalar.addi arg28_r0 c0_i32_174_r0
  let v281_r0 : BitVec 32 := Scalar.muli c5_i32_250_r0 v182_r0
  let c1_i32_251_r0 : BitVec 32 := 1#32
  let v282_r0 : BitVec 32 := Scalar.addi v281_r0 c1_i32_251_r0
  let c5_i32_252_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v283_r0 : BitVec 32 := Scalar.muli c5_i32_252_r0 v192_r0
  let c1_i32_253_r0 : BitVec 32 := 1#32
  let v284_r0 : BitVec 32 := Scalar.addi v283_r0 c1_i32_253_r0
  let v675_r0 : BitVec 1 := Scalar.cmpi .ne v282_r0 v284_r0
  let c0_i32_108_r0 : BitVec 32 := 0#32
  let c1_i32_110_r0 : BitVec 32 := 1#32
  let arg7_r0 : BitVec 32 := Scf.iv c0_i32_108_r0 c1_i32_110_r0 k0_t1
  let c9_i32_173_r0 : BitVec 32 := 9#32
  let v181_r0 : BitVec 1 := Scalar.cmpi .eq arg7_r0 c9_i32_173_r0
  let v676_r0 : BitVec 1 := Scalar.ori v675_r0 v181_r0
  let v677_r0 : BitVec 32 := Scalar.extui v676_r0
  let c0_i32_453_r0 : BitVec 32 := 0#32
  let v678_r0 : BitVec 1 := Scalar.cmpi .ne v677_r0 c0_i32_453_r0
  v678_r0

def k0_off62 (arg28_r0 : BitVec 32) : Fin 2 → Nat :=
  let c2000_i32_512_r0 : BitVec 32 := 2000#32
  let c5_i32_510_r0 : BitVec 32 := 5#32
  let c0_i32_174_r0 : BitVec 32 := 0#32
  let v182_r0 : BitVec 32 := Scalar.addi arg28_r0 c0_i32_174_r0
  let v798_r0 : BitVec 32 := Scalar.muli c5_i32_510_r0 v182_r0
  let c1_i32_511_r0 : BitVec 32 := 1#32
  let v799_r0 : BitVec 32 := Scalar.addi v798_r0 c1_i32_511_r0
  let v800_r0 : BitVec 32 := Scalar.muli c2000_i32_512_r0 v799_r0
  let c0_i32_513_r0 : BitVec 32 := 0#32
  ![v800_r0.toNat, 0]
def k0_off63 (arg20_r0 : BitVec 32) : Fin 3 → Nat :=
  let c2_i32_509_r0 : BitVec 32 := 2#32
  let v797_r0 : BitVec 32 := Scalar.remui arg20_r0 c2_i32_509_r0
  let c0_i32_514_r0 : BitVec 32 := 0#32
  let c0_i32_515_r0 : BitVec 32 := 0#32
  ![v797_r0.toNat, 0, 0]
def k0_off64 (arg22_r0 : BitVec 32) : Fin 1 → Nat :=
  let c2_i32_509_r0 : BitVec 32 := 2#32
  let v797_r0 : BitVec 32 := Scalar.remui arg22_r0 c2_i32_509_r0
  ![v797_r0.toNat]
def k0_cond28 (k0_t1 : Fin k0_t1_loop.trips) (arg28_r0 : BitVec 32) : BitVec 1 :=
  let c5_i32_256_r0 : BitVec 32 := 5#32
  let c0_i32_174_r0 : BitVec 32 := 0#32
  let v182_r0 : BitVec 32 := Scalar.addi arg28_r0 c0_i32_174_r0
  let v289_r0 : BitVec 32 := Scalar.muli c5_i32_256_r0 v182_r0
  let c2_i32_257_r0 : BitVec 32 := 2#32
  let v290_r0 : BitVec 32 := Scalar.addi v289_r0 c2_i32_257_r0
  let c5_i32_258_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v291_r0 : BitVec 32 := Scalar.muli c5_i32_258_r0 v192_r0
  let c2_i32_259_r0 : BitVec 32 := 2#32
  let v292_r0 : BitVec 32 := Scalar.addi v291_r0 c2_i32_259_r0
  let v682_r0 : BitVec 1 := Scalar.cmpi .ne v290_r0 v292_r0
  let c0_i32_108_r0 : BitVec 32 := 0#32
  let c1_i32_110_r0 : BitVec 32 := 1#32
  let arg7_r0 : BitVec 32 := Scf.iv c0_i32_108_r0 c1_i32_110_r0 k0_t1
  let c9_i32_173_r0 : BitVec 32 := 9#32
  let v181_r0 : BitVec 1 := Scalar.cmpi .eq arg7_r0 c9_i32_173_r0
  let v683_r0 : BitVec 1 := Scalar.ori v682_r0 v181_r0
  let v684_r0 : BitVec 32 := Scalar.extui v683_r0
  let c0_i32_456_r0 : BitVec 32 := 0#32
  let v685_r0 : BitVec 1 := Scalar.cmpi .ne v684_r0 c0_i32_456_r0
  v685_r0

def k0_off65 (arg28_r0 : BitVec 32) : Fin 2 → Nat :=
  let c2000_i32_512_r0 : BitVec 32 := 2000#32
  let c5_i32_510_r0 : BitVec 32 := 5#32
  let c0_i32_174_r0 : BitVec 32 := 0#32
  let v182_r0 : BitVec 32 := Scalar.addi arg28_r0 c0_i32_174_r0
  let v798_r0 : BitVec 32 := Scalar.muli c5_i32_510_r0 v182_r0
  let c2_i32_511_r0 : BitVec 32 := 2#32
  let v799_r0 : BitVec 32 := Scalar.addi v798_r0 c2_i32_511_r0
  let v800_r0 : BitVec 32 := Scalar.muli c2000_i32_512_r0 v799_r0
  let c0_i32_513_r0 : BitVec 32 := 0#32
  ![v800_r0.toNat, 0]
def k0_off66 (arg22_r0 : BitVec 32) : Fin 3 → Nat :=
  let c2_i32_509_r0 : BitVec 32 := 2#32
  let v797_r0 : BitVec 32 := Scalar.remui arg22_r0 c2_i32_509_r0
  let c0_i32_514_r0 : BitVec 32 := 0#32
  let c0_i32_515_r0 : BitVec 32 := 0#32
  ![v797_r0.toNat, 0, 0]
def k0_off67 (arg24_r0 : BitVec 32) : Fin 1 → Nat :=
  let c2_i32_509_r0 : BitVec 32 := 2#32
  let v797_r0 : BitVec 32 := Scalar.remui arg24_r0 c2_i32_509_r0
  ![v797_r0.toNat]
def k0_cond29 (k0_t1 : Fin k0_t1_loop.trips) (arg28_r0 : BitVec 32) : BitVec 1 :=
  let c5_i32_262_r0 : BitVec 32 := 5#32
  let c0_i32_174_r0 : BitVec 32 := 0#32
  let v182_r0 : BitVec 32 := Scalar.addi arg28_r0 c0_i32_174_r0
  let v297_r0 : BitVec 32 := Scalar.muli c5_i32_262_r0 v182_r0
  let c3_i32_263_r0 : BitVec 32 := 3#32
  let v298_r0 : BitVec 32 := Scalar.addi v297_r0 c3_i32_263_r0
  let c5_i32_264_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v299_r0 : BitVec 32 := Scalar.muli c5_i32_264_r0 v192_r0
  let c3_i32_265_r0 : BitVec 32 := 3#32
  let v300_r0 : BitVec 32 := Scalar.addi v299_r0 c3_i32_265_r0
  let v689_r0 : BitVec 1 := Scalar.cmpi .ne v298_r0 v300_r0
  let c0_i32_108_r0 : BitVec 32 := 0#32
  let c1_i32_110_r0 : BitVec 32 := 1#32
  let arg7_r0 : BitVec 32 := Scf.iv c0_i32_108_r0 c1_i32_110_r0 k0_t1
  let c9_i32_173_r0 : BitVec 32 := 9#32
  let v181_r0 : BitVec 1 := Scalar.cmpi .eq arg7_r0 c9_i32_173_r0
  let v690_r0 : BitVec 1 := Scalar.ori v689_r0 v181_r0
  let v691_r0 : BitVec 32 := Scalar.extui v690_r0
  let c0_i32_459_r0 : BitVec 32 := 0#32
  let v692_r0 : BitVec 1 := Scalar.cmpi .ne v691_r0 c0_i32_459_r0
  v692_r0

def k0_off68 (arg28_r0 : BitVec 32) : Fin 2 → Nat :=
  let c2000_i32_512_r0 : BitVec 32 := 2000#32
  let c5_i32_510_r0 : BitVec 32 := 5#32
  let c0_i32_174_r0 : BitVec 32 := 0#32
  let v182_r0 : BitVec 32 := Scalar.addi arg28_r0 c0_i32_174_r0
  let v798_r0 : BitVec 32 := Scalar.muli c5_i32_510_r0 v182_r0
  let c3_i32_511_r0 : BitVec 32 := 3#32
  let v799_r0 : BitVec 32 := Scalar.addi v798_r0 c3_i32_511_r0
  let v800_r0 : BitVec 32 := Scalar.muli c2000_i32_512_r0 v799_r0
  let c0_i32_513_r0 : BitVec 32 := 0#32
  ![v800_r0.toNat, 0]
def k0_off69 (arg24_r0 : BitVec 32) : Fin 3 → Nat :=
  let c2_i32_509_r0 : BitVec 32 := 2#32
  let v797_r0 : BitVec 32 := Scalar.remui arg24_r0 c2_i32_509_r0
  let c0_i32_514_r0 : BitVec 32 := 0#32
  let c0_i32_515_r0 : BitVec 32 := 0#32
  ![v797_r0.toNat, 0, 0]
def k0_off70 (arg26_r0 : BitVec 32) : Fin 1 → Nat :=
  let c2_i32_509_r0 : BitVec 32 := 2#32
  let v797_r0 : BitVec 32 := Scalar.remui arg26_r0 c2_i32_509_r0
  ![v797_r0.toNat]
def k0_cond30 (k0_t1 : Fin k0_t1_loop.trips) (arg28_r0 : BitVec 32) : BitVec 1 :=
  let c5_i32_268_r0 : BitVec 32 := 5#32
  let c0_i32_174_r0 : BitVec 32 := 0#32
  let v182_r0 : BitVec 32 := Scalar.addi arg28_r0 c0_i32_174_r0
  let v305_r0 : BitVec 32 := Scalar.muli c5_i32_268_r0 v182_r0
  let c4_i32_269_r0 : BitVec 32 := 4#32
  let v306_r0 : BitVec 32 := Scalar.addi v305_r0 c4_i32_269_r0
  let c5_i32_270_r0 : BitVec 32 := 5#32
  let true_181_r0 : BitVec 1 := 1#1
  let c1_i32_180_r0 : BitVec 32 := 1#32
  let v188_r0 : BitVec 32 := Scalar.addi arg28_r0 c1_i32_180_r0
  let v189_r0 : BitVec 32 := Scalar.select true_181_r0 v188_r0 arg28_r0
  let c10_i32_182_r0 : BitVec 32 := 10#32
  let v190_r0 : BitVec 1 := Scalar.cmpi .eq v189_r0 c10_i32_182_r0
  let c0_i32_183_r0 : BitVec 32 := 0#32
  let v191_r0 : BitVec 32 := Scalar.select v190_r0 c0_i32_183_r0 v189_r0
  let c0_i32_184_r0 : BitVec 32 := 0#32
  let v192_r0 : BitVec 32 := Scalar.addi v191_r0 c0_i32_184_r0
  let v307_r0 : BitVec 32 := Scalar.muli c5_i32_270_r0 v192_r0
  let c4_i32_271_r0 : BitVec 32 := 4#32
  let v308_r0 : BitVec 32 := Scalar.addi v307_r0 c4_i32_271_r0
  let v696_r0 : BitVec 1 := Scalar.cmpi .ne v306_r0 v308_r0
  let c0_i32_108_r0 : BitVec 32 := 0#32
  let c1_i32_110_r0 : BitVec 32 := 1#32
  let arg7_r0 : BitVec 32 := Scf.iv c0_i32_108_r0 c1_i32_110_r0 k0_t1
  let c9_i32_173_r0 : BitVec 32 := 9#32
  let v181_r0 : BitVec 1 := Scalar.cmpi .eq arg7_r0 c9_i32_173_r0
  let v697_r0 : BitVec 1 := Scalar.ori v696_r0 v181_r0
  let v698_r0 : BitVec 32 := Scalar.extui v697_r0
  let c0_i32_462_r0 : BitVec 32 := 0#32
  let v699_r0 : BitVec 1 := Scalar.cmpi .ne v698_r0 c0_i32_462_r0
  v699_r0

def k0_off71 (arg28_r0 : BitVec 32) : Fin 2 → Nat :=
  let c2000_i32_512_r0 : BitVec 32 := 2000#32
  let c5_i32_510_r0 : BitVec 32 := 5#32
  let c0_i32_174_r0 : BitVec 32 := 0#32
  let v182_r0 : BitVec 32 := Scalar.addi arg28_r0 c0_i32_174_r0
  let v798_r0 : BitVec 32 := Scalar.muli c5_i32_510_r0 v182_r0
  let c4_i32_511_r0 : BitVec 32 := 4#32
  let v799_r0 : BitVec 32 := Scalar.addi v798_r0 c4_i32_511_r0
  let v800_r0 : BitVec 32 := Scalar.muli c2000_i32_512_r0 v799_r0
  let c0_i32_513_r0 : BitVec 32 := 0#32
  ![v800_r0.toNat, 0]
def k0_off72 (arg26_r0 : BitVec 32) : Fin 3 → Nat :=
  let c2_i32_509_r0 : BitVec 32 := 2#32
  let v797_r0 : BitVec 32 := Scalar.remui arg26_r0 c2_i32_509_r0
  let c0_i32_514_r0 : BitVec 32 := 0#32
  let c0_i32_515_r0 : BitVec 32 := 0#32
  ![v797_r0.toNat, 0, 0]
def k0_off73 (arg19_r0 : BitVec 32) : Fin 1 → Nat :=
  let c2_i32_509_r0 : BitVec 32 := 2#32
  let v797_r0 : BitVec 32 := Scalar.remui arg19_r0 c2_i32_509_r0
  ![v797_r0.toNat]
def k0_cond36 (k0_t1 : Fin k0_t1_loop.trips) (arg28_r0 : BitVec 32) : BitVec 1 :=
  let c5_i32_244_r0 : BitVec 32 := 5#32
  let c0_i32_174_r0 : BitVec 32 := 0#32
  let v182_r0 : BitVec 32 := Scalar.addi arg28_r0 c0_i32_174_r0
  let v273_r0 : BitVec 32 := Scalar.muli c5_i32_244_r0 v182_r0
  let c0_i32_245_r0 : BitVec 32 := 0#32
  let v274_r0 : BitVec 32 := Scalar.addi v273_r0 c0_i32_245_r0
  let c5_i32_304_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v363_r0 : BitVec 32 := Scalar.muli c5_i32_304_r0 v187_r0
  let c0_i32_305_r0 : BitVec 32 := 0#32
  let v364_r0 : BitVec 32 := Scalar.addi v363_r0 c0_i32_305_r0
  let v733_r0 : BitVec 1 := Scalar.cmpi .ne v274_r0 v364_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let true_480_r0 : BitVec 1 := 1#1
  let v734_r0 : BitVec 1 := Scalar.xori v180_r0 true_480_r0
  let v735_r0 : BitVec 1 := Scalar.andi v733_r0 v734_r0
  let v736_r0 : BitVec 32 := Scalar.extui v735_r0
  let c0_i32_481_r0 : BitVec 32 := 0#32
  let v737_r0 : BitVec 1 := Scalar.cmpi .ne v736_r0 c0_i32_481_r0
  v737_r0

def k0_off74 (arg28_r0 : BitVec 32) : Fin 2 → Nat :=
  let c2000_i32_512_r0 : BitVec 32 := 2000#32
  let c5_i32_510_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v798_r0 : BitVec 32 := Scalar.muli c5_i32_510_r0 v187_r0
  let c0_i32_511_r0 : BitVec 32 := 0#32
  let v799_r0 : BitVec 32 := Scalar.addi v798_r0 c0_i32_511_r0
  let v800_r0 : BitVec 32 := Scalar.muli c2000_i32_512_r0 v799_r0
  let c0_i32_513_r0 : BitVec 32 := 0#32
  ![v800_r0.toNat, 0]
def k0_off75 (arg19_r0 : BitVec 32) : Fin 3 → Nat :=
  let c2_i32_509_r0 : BitVec 32 := 2#32
  let v797_r0 : BitVec 32 := Scalar.remui arg19_r0 c2_i32_509_r0
  let c0_i32_514_r0 : BitVec 32 := 0#32
  let c0_i32_515_r0 : BitVec 32 := 0#32
  ![v797_r0.toNat, 0, 0]
def k0_off76 (arg21_r0 : BitVec 32) : Fin 1 → Nat :=
  let c2_i32_509_r0 : BitVec 32 := 2#32
  let v797_r0 : BitVec 32 := Scalar.remui arg21_r0 c2_i32_509_r0
  ![v797_r0.toNat]
def k0_cond37 (k0_t1 : Fin k0_t1_loop.trips) (arg28_r0 : BitVec 32) : BitVec 1 :=
  let c5_i32_250_r0 : BitVec 32 := 5#32
  let c0_i32_174_r0 : BitVec 32 := 0#32
  let v182_r0 : BitVec 32 := Scalar.addi arg28_r0 c0_i32_174_r0
  let v281_r0 : BitVec 32 := Scalar.muli c5_i32_250_r0 v182_r0
  let c1_i32_251_r0 : BitVec 32 := 1#32
  let v282_r0 : BitVec 32 := Scalar.addi v281_r0 c1_i32_251_r0
  let c5_i32_308_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v371_r0 : BitVec 32 := Scalar.muli c5_i32_308_r0 v187_r0
  let c1_i32_309_r0 : BitVec 32 := 1#32
  let v372_r0 : BitVec 32 := Scalar.addi v371_r0 c1_i32_309_r0
  let v741_r0 : BitVec 1 := Scalar.cmpi .ne v282_r0 v372_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let true_484_r0 : BitVec 1 := 1#1
  let v742_r0 : BitVec 1 := Scalar.xori v180_r0 true_484_r0
  let v743_r0 : BitVec 1 := Scalar.andi v741_r0 v742_r0
  let v744_r0 : BitVec 32 := Scalar.extui v743_r0
  let c0_i32_485_r0 : BitVec 32 := 0#32
  let v745_r0 : BitVec 1 := Scalar.cmpi .ne v744_r0 c0_i32_485_r0
  v745_r0

def k0_off77 (arg28_r0 : BitVec 32) : Fin 2 → Nat :=
  let c2000_i32_512_r0 : BitVec 32 := 2000#32
  let c5_i32_510_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v798_r0 : BitVec 32 := Scalar.muli c5_i32_510_r0 v187_r0
  let c1_i32_511_r0 : BitVec 32 := 1#32
  let v799_r0 : BitVec 32 := Scalar.addi v798_r0 c1_i32_511_r0
  let v800_r0 : BitVec 32 := Scalar.muli c2000_i32_512_r0 v799_r0
  let c0_i32_513_r0 : BitVec 32 := 0#32
  ![v800_r0.toNat, 0]
def k0_off78 (arg21_r0 : BitVec 32) : Fin 3 → Nat :=
  let c2_i32_509_r0 : BitVec 32 := 2#32
  let v797_r0 : BitVec 32 := Scalar.remui arg21_r0 c2_i32_509_r0
  let c0_i32_514_r0 : BitVec 32 := 0#32
  let c0_i32_515_r0 : BitVec 32 := 0#32
  ![v797_r0.toNat, 0, 0]
def k0_off79 (arg23_r0 : BitVec 32) : Fin 1 → Nat :=
  let c2_i32_509_r0 : BitVec 32 := 2#32
  let v797_r0 : BitVec 32 := Scalar.remui arg23_r0 c2_i32_509_r0
  ![v797_r0.toNat]
def k0_cond38 (k0_t1 : Fin k0_t1_loop.trips) (arg28_r0 : BitVec 32) : BitVec 1 :=
  let c5_i32_256_r0 : BitVec 32 := 5#32
  let c0_i32_174_r0 : BitVec 32 := 0#32
  let v182_r0 : BitVec 32 := Scalar.addi arg28_r0 c0_i32_174_r0
  let v289_r0 : BitVec 32 := Scalar.muli c5_i32_256_r0 v182_r0
  let c2_i32_257_r0 : BitVec 32 := 2#32
  let v290_r0 : BitVec 32 := Scalar.addi v289_r0 c2_i32_257_r0
  let c5_i32_312_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v379_r0 : BitVec 32 := Scalar.muli c5_i32_312_r0 v187_r0
  let c2_i32_313_r0 : BitVec 32 := 2#32
  let v380_r0 : BitVec 32 := Scalar.addi v379_r0 c2_i32_313_r0
  let v749_r0 : BitVec 1 := Scalar.cmpi .ne v290_r0 v380_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let true_488_r0 : BitVec 1 := 1#1
  let v750_r0 : BitVec 1 := Scalar.xori v180_r0 true_488_r0
  let v751_r0 : BitVec 1 := Scalar.andi v749_r0 v750_r0
  let v752_r0 : BitVec 32 := Scalar.extui v751_r0
  let c0_i32_489_r0 : BitVec 32 := 0#32
  let v753_r0 : BitVec 1 := Scalar.cmpi .ne v752_r0 c0_i32_489_r0
  v753_r0

def k0_off80 (arg28_r0 : BitVec 32) : Fin 2 → Nat :=
  let c2000_i32_512_r0 : BitVec 32 := 2000#32
  let c5_i32_510_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v798_r0 : BitVec 32 := Scalar.muli c5_i32_510_r0 v187_r0
  let c2_i32_511_r0 : BitVec 32 := 2#32
  let v799_r0 : BitVec 32 := Scalar.addi v798_r0 c2_i32_511_r0
  let v800_r0 : BitVec 32 := Scalar.muli c2000_i32_512_r0 v799_r0
  let c0_i32_513_r0 : BitVec 32 := 0#32
  ![v800_r0.toNat, 0]
def k0_off81 (arg23_r0 : BitVec 32) : Fin 3 → Nat :=
  let c2_i32_509_r0 : BitVec 32 := 2#32
  let v797_r0 : BitVec 32 := Scalar.remui arg23_r0 c2_i32_509_r0
  let c0_i32_514_r0 : BitVec 32 := 0#32
  let c0_i32_515_r0 : BitVec 32 := 0#32
  ![v797_r0.toNat, 0, 0]
def k0_off82 (arg25_r0 : BitVec 32) : Fin 1 → Nat :=
  let c2_i32_509_r0 : BitVec 32 := 2#32
  let v797_r0 : BitVec 32 := Scalar.remui arg25_r0 c2_i32_509_r0
  ![v797_r0.toNat]
def k0_cond39 (k0_t1 : Fin k0_t1_loop.trips) (arg28_r0 : BitVec 32) : BitVec 1 :=
  let c5_i32_262_r0 : BitVec 32 := 5#32
  let c0_i32_174_r0 : BitVec 32 := 0#32
  let v182_r0 : BitVec 32 := Scalar.addi arg28_r0 c0_i32_174_r0
  let v297_r0 : BitVec 32 := Scalar.muli c5_i32_262_r0 v182_r0
  let c3_i32_263_r0 : BitVec 32 := 3#32
  let v298_r0 : BitVec 32 := Scalar.addi v297_r0 c3_i32_263_r0
  let c5_i32_316_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v387_r0 : BitVec 32 := Scalar.muli c5_i32_316_r0 v187_r0
  let c3_i32_317_r0 : BitVec 32 := 3#32
  let v388_r0 : BitVec 32 := Scalar.addi v387_r0 c3_i32_317_r0
  let v757_r0 : BitVec 1 := Scalar.cmpi .ne v298_r0 v388_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let true_492_r0 : BitVec 1 := 1#1
  let v758_r0 : BitVec 1 := Scalar.xori v180_r0 true_492_r0
  let v759_r0 : BitVec 1 := Scalar.andi v757_r0 v758_r0
  let v760_r0 : BitVec 32 := Scalar.extui v759_r0
  let c0_i32_493_r0 : BitVec 32 := 0#32
  let v761_r0 : BitVec 1 := Scalar.cmpi .ne v760_r0 c0_i32_493_r0
  v761_r0

def k0_off83 (arg28_r0 : BitVec 32) : Fin 2 → Nat :=
  let c2000_i32_512_r0 : BitVec 32 := 2000#32
  let c5_i32_510_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v798_r0 : BitVec 32 := Scalar.muli c5_i32_510_r0 v187_r0
  let c3_i32_511_r0 : BitVec 32 := 3#32
  let v799_r0 : BitVec 32 := Scalar.addi v798_r0 c3_i32_511_r0
  let v800_r0 : BitVec 32 := Scalar.muli c2000_i32_512_r0 v799_r0
  let c0_i32_513_r0 : BitVec 32 := 0#32
  ![v800_r0.toNat, 0]
def k0_off84 (arg25_r0 : BitVec 32) : Fin 3 → Nat :=
  let c2_i32_509_r0 : BitVec 32 := 2#32
  let v797_r0 : BitVec 32 := Scalar.remui arg25_r0 c2_i32_509_r0
  let c0_i32_514_r0 : BitVec 32 := 0#32
  let c0_i32_515_r0 : BitVec 32 := 0#32
  ![v797_r0.toNat, 0, 0]
def k0_off85 (arg27_r0 : BitVec 32) : Fin 1 → Nat :=
  let c2_i32_509_r0 : BitVec 32 := 2#32
  let v797_r0 : BitVec 32 := Scalar.remui arg27_r0 c2_i32_509_r0
  ![v797_r0.toNat]
def k0_cond40 (k0_t1 : Fin k0_t1_loop.trips) (arg28_r0 : BitVec 32) : BitVec 1 :=
  let c5_i32_268_r0 : BitVec 32 := 5#32
  let c0_i32_174_r0 : BitVec 32 := 0#32
  let v182_r0 : BitVec 32 := Scalar.addi arg28_r0 c0_i32_174_r0
  let v305_r0 : BitVec 32 := Scalar.muli c5_i32_268_r0 v182_r0
  let c4_i32_269_r0 : BitVec 32 := 4#32
  let v306_r0 : BitVec 32 := Scalar.addi v305_r0 c4_i32_269_r0
  let c5_i32_320_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v395_r0 : BitVec 32 := Scalar.muli c5_i32_320_r0 v187_r0
  let c4_i32_321_r0 : BitVec 32 := 4#32
  let v396_r0 : BitVec 32 := Scalar.addi v395_r0 c4_i32_321_r0
  let v765_r0 : BitVec 1 := Scalar.cmpi .ne v306_r0 v396_r0
  let c0_i32_108_r0 : BitVec 32 := 0#32
  let c1_i32_110_r0 : BitVec 32 := 1#32
  let arg7_r0 : BitVec 32 := Scf.iv c0_i32_108_r0 c1_i32_110_r0 k0_t1
  let c0_i32_172_r0 : BitVec 32 := 0#32
  let v180_r0 : BitVec 1 := Scalar.cmpi .eq arg7_r0 c0_i32_172_r0
  let true_496_r0 : BitVec 1 := 1#1
  let v766_r0 : BitVec 1 := Scalar.xori v180_r0 true_496_r0
  let v767_r0 : BitVec 1 := Scalar.andi v765_r0 v766_r0
  let v768_r0 : BitVec 32 := Scalar.extui v767_r0
  let c0_i32_497_r0 : BitVec 32 := 0#32
  let v769_r0 : BitVec 1 := Scalar.cmpi .ne v768_r0 c0_i32_497_r0
  v769_r0

def k0_off86 (arg28_r0 : BitVec 32) : Fin 2 → Nat :=
  let c2000_i32_512_r0 : BitVec 32 := 2000#32
  let c5_i32_510_r0 : BitVec 32 := 5#32
  let true_176_r0 : BitVec 1 := 1#1
  let c1_i32_175_r0 : BitVec 32 := 1#32
  let v183_r0 : BitVec 32 := Scalar.subi arg28_r0 c1_i32_175_r0
  let v184_r0 : BitVec 32 := Scalar.select true_176_r0 v183_r0 arg28_r0
  let c_m1_i32_177_r0 : BitVec 32 := 4294967295#32
  let v185_r0 : BitVec 1 := Scalar.cmpi .eq v184_r0 c_m1_i32_177_r0
  let c9_i32_178_r0 : BitVec 32 := 9#32
  let v186_r0 : BitVec 32 := Scalar.select v185_r0 c9_i32_178_r0 v184_r0
  let c0_i32_179_r0 : BitVec 32 := 0#32
  let v187_r0 : BitVec 32 := Scalar.addi v186_r0 c0_i32_179_r0
  let v798_r0 : BitVec 32 := Scalar.muli c5_i32_510_r0 v187_r0
  let c4_i32_511_r0 : BitVec 32 := 4#32
  let v799_r0 : BitVec 32 := Scalar.addi v798_r0 c4_i32_511_r0
  let v800_r0 : BitVec 32 := Scalar.muli c2000_i32_512_r0 v799_r0
  let c0_i32_513_r0 : BitVec 32 := 0#32
  ![v800_r0.toNat, 0]
def k0_off87 (arg27_r0 : BitVec 32) : Fin 3 → Nat :=
  let c2_i32_509_r0 : BitVec 32 := 2#32
  let v797_r0 : BitVec 32 := Scalar.remui arg27_r0 c2_i32_509_r0
  let c0_i32_514_r0 : BitVec 32 := 0#32
  let c0_i32_515_r0 : BitVec 32 := 0#32
  ![v797_r0.toNat, 0, 0]

def k0_chk1_0 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) : Prop :=
  (∀ (k0_h6 : k0_cond6 k0_t1 arg28_r0 = 1#1), ∀ a, (k0_off18 arg8_r0) a + S1.size a ≤ S3.size a) ∧
  (∀ (k0_h6 : k0_cond6 k0_t1 arg28_r0 = 1#1), ∀ a, (k0_off19 arg8_r0) a + S1x2000x129.size a ≤ S3x2000x129.size a) ∧
  (∀ (k0_h6 : k0_cond6 k0_t1 arg28_r0 = 1#1), ∀ a, (k0_off20 arg28_r0) a + S2000x129.size a ≤ S100000x129.size a) ∧
  (∀ (k0_h7 : k0_cond7 k0_t1 arg28_r0 = 1#1), ∀ a, (k0_off21 arg10_r0) a + S1.size a ≤ S3.size a) ∧
  (∀ (k0_h7 : k0_cond7 k0_t1 arg28_r0 = 1#1), ∀ a, (k0_off22 arg10_r0) a + S1x2000x129.size a ≤ S3x2000x129.size a) ∧
  (∀ (k0_h7 : k0_cond7 k0_t1 arg28_r0 = 1#1), ∀ a, (k0_off23 arg28_r0) a + S2000x129.size a ≤ S100000x129.size a) ∧
  (∀ (k0_h8 : k0_cond8 k0_t1 arg28_r0 = 1#1), ∀ a, (k0_off24 arg12_r0) a + S1.size a ≤ S3.size a) ∧
  (∀ (k0_h8 : k0_cond8 k0_t1 arg28_r0 = 1#1), ∀ a, (k0_off25 arg12_r0) a + S1x2000x129.size a ≤ S3x2000x129.size a) ∧
  (∀ (k0_h8 : k0_cond8 k0_t1 arg28_r0 = 1#1), ∀ a, (k0_off26 arg28_r0) a + S2000x129.size a ≤ S100000x129.size a) ∧
  (∀ (k0_h9 : k0_cond9 k0_t1 arg28_r0 = 1#1), ∀ a, (k0_off27 arg14_r0) a + S1.size a ≤ S3.size a) ∧
  (∀ (k0_h9 : k0_cond9 k0_t1 arg28_r0 = 1#1), ∀ a, (k0_off28 arg14_r0) a + S1x2000x129.size a ≤ S3x2000x129.size a) ∧
  (∀ (k0_h9 : k0_cond9 k0_t1 arg28_r0 = 1#1), ∀ a, (k0_off29 arg28_r0) a + S2000x129.size a ≤ S100000x129.size a) ∧
  (∀ (k0_h10 : k0_cond10 k0_t1 arg28_r0 = 1#1), ∀ a, (k0_off30 arg16_r0) a + S1.size a ≤ S3.size a) ∧
  (∀ (k0_h10 : k0_cond10 k0_t1 arg28_r0 = 1#1), ∀ a, (k0_off31 arg16_r0) a + S1x2000x129.size a ≤ S3x2000x129.size a) ∧
  (∀ (k0_h10 : k0_cond10 k0_t1 arg28_r0 = 1#1), ∀ a, (k0_off32 arg28_r0) a + S2000x129.size a ≤ S100000x129.size a) ∧
  (∀ (k0_h11 : k0_cond11 k0_t1 arg28_r0 = 1#1), ∀ a, (k0_off33 arg9_r0) a + S1.size a ≤ S3.size a) ∧
  (∀ (k0_h11 : k0_cond11 k0_t1 arg28_r0 = 1#1), ∀ a, (k0_off34 arg9_r0) a + S1x2000x129.size a ≤ S3x2000x129.size a) ∧
  (∀ (k0_h11 : k0_cond11 k0_t1 arg28_r0 = 1#1), ∀ a, (k0_off35 arg28_r0) a + S2000x129.size a ≤ S100000x129.size a) ∧
  (∀ (k0_h12 : k0_cond12 k0_t1 arg28_r0 = 1#1), ∀ a, (k0_off36 arg11_r0) a + S1.size a ≤ S3.size a) ∧
  (∀ (k0_h12 : k0_cond12 k0_t1 arg28_r0 = 1#1), ∀ a, (k0_off37 arg11_r0) a + S1x2000x129.size a ≤ S3x2000x129.size a) ∧
  (∀ (k0_h12 : k0_cond12 k0_t1 arg28_r0 = 1#1), ∀ a, (k0_off38 arg28_r0) a + S2000x129.size a ≤ S100000x129.size a) ∧
  (∀ (k0_h13 : k0_cond13 k0_t1 arg28_r0 = 1#1), ∀ a, (k0_off39 arg13_r0) a + S1.size a ≤ S3.size a) ∧
  (∀ (k0_h13 : k0_cond13 k0_t1 arg28_r0 = 1#1), ∀ a, (k0_off40 arg13_r0) a + S1x2000x129.size a ≤ S3x2000x129.size a) ∧
  (∀ (k0_h13 : k0_cond13 k0_t1 arg28_r0 = 1#1), ∀ a, (k0_off41 arg28_r0) a + S2000x129.size a ≤ S100000x129.size a) ∧
  (∀ (k0_h14 : k0_cond14 k0_t1 arg28_r0 = 1#1), ∀ a, (k0_off42 arg15_r0) a + S1.size a ≤ S3.size a) ∧
  (∀ (k0_h14 : k0_cond14 k0_t1 arg28_r0 = 1#1), ∀ a, (k0_off43 arg15_r0) a + S1x2000x129.size a ≤ S3x2000x129.size a) ∧
  (∀ (k0_h14 : k0_cond14 k0_t1 arg28_r0 = 1#1), ∀ a, (k0_off44 arg28_r0) a + S2000x129.size a ≤ S100000x129.size a) ∧
  (∀ (k0_h15 : k0_cond15 k0_t1 arg28_r0 = 1#1), ∀ a, (k0_off45 arg17_r0) a + S1.size a ≤ S3.size a) ∧
  (∀ (k0_h15 : k0_cond15 k0_t1 arg28_r0 = 1#1), ∀ a, (k0_off46 arg17_r0) a + S1x2000x129.size a ≤ S3x2000x129.size a) ∧
  (∀ (k0_h15 : k0_cond15 k0_t1 arg28_r0 = 1#1), ∀ a, (k0_off47 arg28_r0) a + S2000x129.size a ≤ S100000x129.size a) ∧
  (∀ (k0_h26 : k0_cond26 k0_t1 arg28_r0 = 1#1), ∀ a, (k0_off58 arg18_r0) a + S1.size a ≤ S2.size a) ∧
  (∀ (k0_h26 : k0_cond26 k0_t1 arg28_r0 = 1#1), ∀ a, (k0_off59 arg28_r0) a + S2000x128.size a ≤ S100000x128.size a)
def k0_chk1_1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) : Prop :=
  (∀ (k0_h26 : k0_cond26 k0_t1 arg28_r0 = 1#1), ∀ a, (k0_off60 arg18_r0) a + S1x2000x128.size a ≤ S2x2000x128.size a) ∧
  (∀ (k0_h27 : k0_cond27 k0_t1 arg28_r0 = 1#1), ∀ a, (k0_off61 arg20_r0) a + S1.size a ≤ S2.size a) ∧
  (∀ (k0_h27 : k0_cond27 k0_t1 arg28_r0 = 1#1), ∀ a, (k0_off62 arg28_r0) a + S2000x128.size a ≤ S100000x128.size a) ∧
  (∀ (k0_h27 : k0_cond27 k0_t1 arg28_r0 = 1#1), ∀ a, (k0_off63 arg20_r0) a + S1x2000x128.size a ≤ S2x2000x128.size a) ∧
  (∀ (k0_h28 : k0_cond28 k0_t1 arg28_r0 = 1#1), ∀ a, (k0_off64 arg22_r0) a + S1.size a ≤ S2.size a) ∧
  (∀ (k0_h28 : k0_cond28 k0_t1 arg28_r0 = 1#1), ∀ a, (k0_off65 arg28_r0) a + S2000x128.size a ≤ S100000x128.size a) ∧
  (∀ (k0_h28 : k0_cond28 k0_t1 arg28_r0 = 1#1), ∀ a, (k0_off66 arg22_r0) a + S1x2000x128.size a ≤ S2x2000x128.size a) ∧
  (∀ (k0_h29 : k0_cond29 k0_t1 arg28_r0 = 1#1), ∀ a, (k0_off67 arg24_r0) a + S1.size a ≤ S2.size a) ∧
  (∀ (k0_h29 : k0_cond29 k0_t1 arg28_r0 = 1#1), ∀ a, (k0_off68 arg28_r0) a + S2000x128.size a ≤ S100000x128.size a) ∧
  (∀ (k0_h29 : k0_cond29 k0_t1 arg28_r0 = 1#1), ∀ a, (k0_off69 arg24_r0) a + S1x2000x128.size a ≤ S2x2000x128.size a) ∧
  (∀ (k0_h30 : k0_cond30 k0_t1 arg28_r0 = 1#1), ∀ a, (k0_off70 arg26_r0) a + S1.size a ≤ S2.size a) ∧
  (∀ (k0_h30 : k0_cond30 k0_t1 arg28_r0 = 1#1), ∀ a, (k0_off71 arg28_r0) a + S2000x128.size a ≤ S100000x128.size a) ∧
  (∀ (k0_h30 : k0_cond30 k0_t1 arg28_r0 = 1#1), ∀ a, (k0_off72 arg26_r0) a + S1x2000x128.size a ≤ S2x2000x128.size a) ∧
  (∀ (k0_h36 : k0_cond36 k0_t1 arg28_r0 = 1#1), ∀ a, (k0_off73 arg19_r0) a + S1.size a ≤ S2.size a) ∧
  (∀ (k0_h36 : k0_cond36 k0_t1 arg28_r0 = 1#1), ∀ a, (k0_off74 arg28_r0) a + S2000x128.size a ≤ S100000x128.size a) ∧
  (∀ (k0_h36 : k0_cond36 k0_t1 arg28_r0 = 1#1), ∀ a, (k0_off75 arg19_r0) a + S1x2000x128.size a ≤ S2x2000x128.size a) ∧
  (∀ (k0_h37 : k0_cond37 k0_t1 arg28_r0 = 1#1), ∀ a, (k0_off76 arg21_r0) a + S1.size a ≤ S2.size a) ∧
  (∀ (k0_h37 : k0_cond37 k0_t1 arg28_r0 = 1#1), ∀ a, (k0_off77 arg28_r0) a + S2000x128.size a ≤ S100000x128.size a) ∧
  (∀ (k0_h37 : k0_cond37 k0_t1 arg28_r0 = 1#1), ∀ a, (k0_off78 arg21_r0) a + S1x2000x128.size a ≤ S2x2000x128.size a) ∧
  (∀ (k0_h38 : k0_cond38 k0_t1 arg28_r0 = 1#1), ∀ a, (k0_off79 arg23_r0) a + S1.size a ≤ S2.size a) ∧
  (∀ (k0_h38 : k0_cond38 k0_t1 arg28_r0 = 1#1), ∀ a, (k0_off80 arg28_r0) a + S2000x128.size a ≤ S100000x128.size a) ∧
  (∀ (k0_h38 : k0_cond38 k0_t1 arg28_r0 = 1#1), ∀ a, (k0_off81 arg23_r0) a + S1x2000x128.size a ≤ S2x2000x128.size a) ∧
  (∀ (k0_h39 : k0_cond39 k0_t1 arg28_r0 = 1#1), ∀ a, (k0_off82 arg25_r0) a + S1.size a ≤ S2.size a) ∧
  (∀ (k0_h39 : k0_cond39 k0_t1 arg28_r0 = 1#1), ∀ a, (k0_off83 arg28_r0) a + S2000x128.size a ≤ S100000x128.size a) ∧
  (∀ (k0_h39 : k0_cond39 k0_t1 arg28_r0 = 1#1), ∀ a, (k0_off84 arg25_r0) a + S1x2000x128.size a ≤ S2x2000x128.size a) ∧
  (∀ (k0_h40 : k0_cond40 k0_t1 arg28_r0 = 1#1), ∀ a, (k0_off85 arg27_r0) a + S1.size a ≤ S2.size a) ∧
  (∀ (k0_h40 : k0_cond40 k0_t1 arg28_r0 = 1#1), ∀ a, (k0_off86 arg28_r0) a + S2000x128.size a ≤ S100000x128.size a) ∧
  (∀ (k0_h40 : k0_cond40 k0_t1 arg28_r0 = 1#1), ∀ a, (k0_off87 arg27_r0) a + S1x2000x128.size a ≤ S2x2000x128.size a)
def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) : Prop :=
  k0_chk1_0 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 ∧
  k0_chk1_1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h6 : k0_cond6 k0_t1 arg28_r0 = 1#1), ∀ a, (k0_off18 arg8_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h6 => k0_hw1.1.1 k0_h6
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h6 : k0_cond6 k0_t1 arg28_r0 = 1#1), ∀ a, (k0_off19 arg8_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h6 => k0_hw1.1.2.1 k0_h6
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h6 : k0_cond6 k0_t1 arg28_r0 = 1#1), ∀ a, (k0_off20 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h6 => k0_hw1.1.2.2.1 k0_h6
theorem k0_off21_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h7 : k0_cond7 k0_t1 arg28_r0 = 1#1), ∀ a, (k0_off21 arg10_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h7 => k0_hw1.1.2.2.2.1 k0_h7
theorem k0_off22_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h7 : k0_cond7 k0_t1 arg28_r0 = 1#1), ∀ a, (k0_off22 arg10_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h7 => k0_hw1.1.2.2.2.2.1 k0_h7
theorem k0_off23_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h7 : k0_cond7 k0_t1 arg28_r0 = 1#1), ∀ a, (k0_off23 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h7 => k0_hw1.1.2.2.2.2.2.1 k0_h7
theorem k0_off24_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h8 : k0_cond8 k0_t1 arg28_r0 = 1#1), ∀ a, (k0_off24 arg12_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h8 => k0_hw1.1.2.2.2.2.2.2.1 k0_h8
theorem k0_off25_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h8 : k0_cond8 k0_t1 arg28_r0 = 1#1), ∀ a, (k0_off25 arg12_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h8 => k0_hw1.1.2.2.2.2.2.2.2.1 k0_h8
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h8 : k0_cond8 k0_t1 arg28_r0 = 1#1), ∀ a, (k0_off26 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h8 => k0_hw1.1.2.2.2.2.2.2.2.2.1 k0_h8
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h9 : k0_cond9 k0_t1 arg28_r0 = 1#1), ∀ a, (k0_off27 arg14_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h9 => k0_hw1.1.2.2.2.2.2.2.2.2.2.1 k0_h9
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h9 : k0_cond9 k0_t1 arg28_r0 = 1#1), ∀ a, (k0_off28 arg14_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h9 => k0_hw1.1.2.2.2.2.2.2.2.2.2.2.1 k0_h9
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h9 : k0_cond9 k0_t1 arg28_r0 = 1#1), ∀ a, (k0_off29 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h9 => k0_hw1.1.2.2.2.2.2.2.2.2.2.2.2.1 k0_h9
theorem k0_off30_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h10 : k0_cond10 k0_t1 arg28_r0 = 1#1), ∀ a, (k0_off30 arg16_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h10 => k0_hw1.1.2.2.2.2.2.2.2.2.2.2.2.2.1 k0_h10
theorem k0_off31_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h10 : k0_cond10 k0_t1 arg28_r0 = 1#1), ∀ a, (k0_off31 arg16_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h10 => k0_hw1.1.2.2.2.2.2.2.2.2.2.2.2.2.2.1 k0_h10
theorem k0_off32_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h10 : k0_cond10 k0_t1 arg28_r0 = 1#1), ∀ a, (k0_off32 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h10 => k0_hw1.1.2.2.2.2.2.2.2.2.2.2.2.2.2.2.1 k0_h10
theorem k0_off33_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h11 : k0_cond11 k0_t1 arg28_r0 = 1#1), ∀ a, (k0_off33 arg9_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h11 => k0_hw1.1.2.2.2.2.2.2.2.2.2.2.2.2.2.2.2.1 k0_h11
theorem k0_off34_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h11 : k0_cond11 k0_t1 arg28_r0 = 1#1), ∀ a, (k0_off34 arg9_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h11 => k0_hw1.1.2.2.2.2.2.2.2.2.2.2.2.2.2.2.2.2.1 k0_h11
theorem k0_off35_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h11 : k0_cond11 k0_t1 arg28_r0 = 1#1), ∀ a, (k0_off35 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h11 => k0_hw1.1.2.2.2.2.2.2.2.2.2.2.2.2.2.2.2.2.2.1 k0_h11
theorem k0_off36_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h12 : k0_cond12 k0_t1 arg28_r0 = 1#1), ∀ a, (k0_off36 arg11_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h12 => k0_hw1.1.2.2.2.2.2.2.2.2.2.2.2.2.2.2.2.2.2.2.1 k0_h12
theorem k0_off37_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h12 : k0_cond12 k0_t1 arg28_r0 = 1#1), ∀ a, (k0_off37 arg11_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h12 => k0_hw1.1.2.2.2.2.2.2.2.2.2.2.2.2.2.2.2.2.2.2.2.1 k0_h12
theorem k0_off38_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h12 : k0_cond12 k0_t1 arg28_r0 = 1#1), ∀ a, (k0_off38 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h12 => k0_hw1.1.2.2.2.2.2.2.2.2.2.2.2.2.2.2.2.2.2.2.2.2.1 k0_h12
theorem k0_off39_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h13 : k0_cond13 k0_t1 arg28_r0 = 1#1), ∀ a, (k0_off39 arg13_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h13 => k0_hw1.1.2.2.2.2.2.2.2.2.2.2.2.2.2.2.2.2.2.2.2.2.2.1 k0_h13
theorem k0_off40_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h13 : k0_cond13 k0_t1 arg28_r0 = 1#1), ∀ a, (k0_off40 arg13_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h13 => k0_hw1.1.2.2.2.2.2.2.2.2.2.2.2.2.2.2.2.2.2.2.2.2.2.2.1 k0_h13
theorem k0_off41_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h13 : k0_cond13 k0_t1 arg28_r0 = 1#1), ∀ a, (k0_off41 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h13 => k0_hw1.1.2.2.2.2.2.2.2.2.2.2.2.2.2.2.2.2.2.2.2.2.2.2.2.1 k0_h13
theorem k0_off42_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h14 : k0_cond14 k0_t1 arg28_r0 = 1#1), ∀ a, (k0_off42 arg15_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h14 => k0_hw1.1.2.2.2.2.2.2.2.2.2.2.2.2.2.2.2.2.2.2.2.2.2.2.2.2.1 k0_h14
theorem k0_off43_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h14 : k0_cond14 k0_t1 arg28_r0 = 1#1), ∀ a, (k0_off43 arg15_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h14 => k0_hw1.1.2.2.2.2.2.2.2.2.2.2.2.2.2.2.2.2.2.2.2.2.2.2.2.2.2.1 k0_h14
theorem k0_off44_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h14 : k0_cond14 k0_t1 arg28_r0 = 1#1), ∀ a, (k0_off44 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h14 => k0_hw1.1.2.2.2.2.2.2.2.2.2.2.2.2.2.2.2.2.2.2.2.2.2.2.2.2.2.2.1 k0_h14
theorem k0_off45_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h15 : k0_cond15 k0_t1 arg28_r0 = 1#1), ∀ a, (k0_off45 arg17_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h15 => k0_hw1.1.2.2.2.2.2.2.2.2.2.2.2.2.2.2.2.2.2.2.2.2.2.2.2.2.2.2.2.1 k0_h15
theorem k0_off46_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h15 : k0_cond15 k0_t1 arg28_r0 = 1#1), ∀ a, (k0_off46 arg17_r0) a + S1x2000x129.size a ≤ S3x2000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h15 => k0_hw1.1.2.2.2.2.2.2.2.2.2.2.2.2.2.2.2.2.2.2.2.2.2.2.2.2.2.2.2.2.1 k0_h15
theorem k0_off47_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h15 : k0_cond15 k0_t1 arg28_r0 = 1#1), ∀ a, (k0_off47 arg28_r0) a + S2000x129.size a ≤ S100000x129.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h15 => k0_hw1.1.2.2.2.2.2.2.2.2.2.2.2.2.2.2.2.2.2.2.2.2.2.2.2.2.2.2.2.2.2.1 k0_h15
theorem k0_off58_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h26 : k0_cond26 k0_t1 arg28_r0 = 1#1), ∀ a, (k0_off58 arg18_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h26 => k0_hw1.1.2.2.2.2.2.2.2.2.2.2.2.2.2.2.2.2.2.2.2.2.2.2.2.2.2.2.2.2.2.2.1 k0_h26
theorem k0_off59_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h26 : k0_cond26 k0_t1 arg28_r0 = 1#1), ∀ a, (k0_off59 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h26 => k0_hw1.1.2.2.2.2.2.2.2.2.2.2.2.2.2.2.2.2.2.2.2.2.2.2.2.2.2.2.2.2.2.2.2 k0_h26
theorem k0_off60_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h26 : k0_cond26 k0_t1 arg28_r0 = 1#1), ∀ a, (k0_off60 arg18_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h26 => k0_hw1.2.1 k0_h26
theorem k0_off61_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h27 : k0_cond27 k0_t1 arg28_r0 = 1#1), ∀ a, (k0_off61 arg20_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h27 => k0_hw1.2.2.1 k0_h27
theorem k0_off62_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h27 : k0_cond27 k0_t1 arg28_r0 = 1#1), ∀ a, (k0_off62 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h27 => k0_hw1.2.2.2.1 k0_h27
theorem k0_off63_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h27 : k0_cond27 k0_t1 arg28_r0 = 1#1), ∀ a, (k0_off63 arg20_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h27 => k0_hw1.2.2.2.2.1 k0_h27
theorem k0_off64_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h28 : k0_cond28 k0_t1 arg28_r0 = 1#1), ∀ a, (k0_off64 arg22_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h28 => k0_hw1.2.2.2.2.2.1 k0_h28
theorem k0_off65_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h28 : k0_cond28 k0_t1 arg28_r0 = 1#1), ∀ a, (k0_off65 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h28 => k0_hw1.2.2.2.2.2.2.1 k0_h28
theorem k0_off66_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h28 : k0_cond28 k0_t1 arg28_r0 = 1#1), ∀ a, (k0_off66 arg22_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h28 => k0_hw1.2.2.2.2.2.2.2.1 k0_h28
theorem k0_off67_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h29 : k0_cond29 k0_t1 arg28_r0 = 1#1), ∀ a, (k0_off67 arg24_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h29 => k0_hw1.2.2.2.2.2.2.2.2.1 k0_h29
theorem k0_off68_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h29 : k0_cond29 k0_t1 arg28_r0 = 1#1), ∀ a, (k0_off68 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h29 => k0_hw1.2.2.2.2.2.2.2.2.2.1 k0_h29
theorem k0_off69_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h29 : k0_cond29 k0_t1 arg28_r0 = 1#1), ∀ a, (k0_off69 arg24_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h29 => k0_hw1.2.2.2.2.2.2.2.2.2.2.1 k0_h29
theorem k0_off70_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h30 : k0_cond30 k0_t1 arg28_r0 = 1#1), ∀ a, (k0_off70 arg26_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h30 => k0_hw1.2.2.2.2.2.2.2.2.2.2.2.1 k0_h30
theorem k0_off71_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h30 : k0_cond30 k0_t1 arg28_r0 = 1#1), ∀ a, (k0_off71 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h30 => k0_hw1.2.2.2.2.2.2.2.2.2.2.2.2.1 k0_h30
theorem k0_off72_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h30 : k0_cond30 k0_t1 arg28_r0 = 1#1), ∀ a, (k0_off72 arg26_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h30 => k0_hw1.2.2.2.2.2.2.2.2.2.2.2.2.2.1 k0_h30
theorem k0_off73_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h36 : k0_cond36 k0_t1 arg28_r0 = 1#1), ∀ a, (k0_off73 arg19_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h36 => k0_hw1.2.2.2.2.2.2.2.2.2.2.2.2.2.2.1 k0_h36
theorem k0_off74_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h36 : k0_cond36 k0_t1 arg28_r0 = 1#1), ∀ a, (k0_off74 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h36 => k0_hw1.2.2.2.2.2.2.2.2.2.2.2.2.2.2.2.1 k0_h36
theorem k0_off75_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h36 : k0_cond36 k0_t1 arg28_r0 = 1#1), ∀ a, (k0_off75 arg19_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h36 => k0_hw1.2.2.2.2.2.2.2.2.2.2.2.2.2.2.2.2.1 k0_h36
theorem k0_off76_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h37 : k0_cond37 k0_t1 arg28_r0 = 1#1), ∀ a, (k0_off76 arg21_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h37 => k0_hw1.2.2.2.2.2.2.2.2.2.2.2.2.2.2.2.2.2.1 k0_h37
theorem k0_off77_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h37 : k0_cond37 k0_t1 arg28_r0 = 1#1), ∀ a, (k0_off77 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h37 => k0_hw1.2.2.2.2.2.2.2.2.2.2.2.2.2.2.2.2.2.2.1 k0_h37
theorem k0_off78_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h37 : k0_cond37 k0_t1 arg28_r0 = 1#1), ∀ a, (k0_off78 arg21_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h37 => k0_hw1.2.2.2.2.2.2.2.2.2.2.2.2.2.2.2.2.2.2.2.1 k0_h37
theorem k0_off79_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h38 : k0_cond38 k0_t1 arg28_r0 = 1#1), ∀ a, (k0_off79 arg23_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h38 => k0_hw1.2.2.2.2.2.2.2.2.2.2.2.2.2.2.2.2.2.2.2.2.1 k0_h38
theorem k0_off80_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h38 : k0_cond38 k0_t1 arg28_r0 = 1#1), ∀ a, (k0_off80 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h38 => k0_hw1.2.2.2.2.2.2.2.2.2.2.2.2.2.2.2.2.2.2.2.2.2.1 k0_h38
theorem k0_off81_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h38 : k0_cond38 k0_t1 arg28_r0 = 1#1), ∀ a, (k0_off81 arg23_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h38 => k0_hw1.2.2.2.2.2.2.2.2.2.2.2.2.2.2.2.2.2.2.2.2.2.2.1 k0_h38
theorem k0_off82_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h39 : k0_cond39 k0_t1 arg28_r0 = 1#1), ∀ a, (k0_off82 arg25_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h39 => k0_hw1.2.2.2.2.2.2.2.2.2.2.2.2.2.2.2.2.2.2.2.2.2.2.2.1 k0_h39
theorem k0_off83_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h39 : k0_cond39 k0_t1 arg28_r0 = 1#1), ∀ a, (k0_off83 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h39 => k0_hw1.2.2.2.2.2.2.2.2.2.2.2.2.2.2.2.2.2.2.2.2.2.2.2.2.1 k0_h39
theorem k0_off84_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h39 : k0_cond39 k0_t1 arg28_r0 = 1#1), ∀ a, (k0_off84 arg25_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h39 => k0_hw1.2.2.2.2.2.2.2.2.2.2.2.2.2.2.2.2.2.2.2.2.2.2.2.2.2.1 k0_h39
theorem k0_off85_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h40 : k0_cond40 k0_t1 arg28_r0 = 1#1), ∀ a, (k0_off85 arg27_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h40 => k0_hw1.2.2.2.2.2.2.2.2.2.2.2.2.2.2.2.2.2.2.2.2.2.2.2.2.2.2.1 k0_h40
theorem k0_off86_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h40 : k0_cond40 k0_t1 arg28_r0 = 1#1), ∀ a, (k0_off86 arg28_r0) a + S2000x128.size a ≤ S100000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h40 => k0_hw1.2.2.2.2.2.2.2.2.2.2.2.2.2.2.2.2.2.2.2.2.2.2.2.2.2.2.2.1 k0_h40
theorem k0_off87_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0), ∀ (k0_h40 : k0_cond40 k0_t1 arg28_r0 = 1#1), ∀ a, (k0_off87 arg27_r0) a + S1x2000x128.size a ≤ S2x2000x128.size a := fun k0_t1 arg8_r0 arg9_r0 arg10_r0 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 k0_hw1 k0_h40 => k0_hw1.2.2.2.2.2.2.2.2.2.2.2.2.2.2.2.2.2.2.2.2.2.2.2.2.2.2.2.2 k0_h40

def k0_off88 (v109_11_r0 : BitVec 32) : Fin 1 → Nat :=
  let c2_i32_137_r0 : BitVec 32 := 2#32
  let v135_r0 : BitVec 32 := Scalar.remui v109_11_r0 c2_i32_137_r0
  ![v135_r0.toNat]

def k0_off89 (v109_20_r0 : BitVec 32) : Fin 2 → Nat :=
  let c2000_i32_140_r0 : BitVec 32 := 2000#32
  let c5_i32_138_r0 : BitVec 32 := 5#32
  let true_113_r0 : BitVec 1 := 1#1
  let c1_i32_112_r0 : BitVec 32 := 1#32
  let v110_r0 : BitVec 32 := Scalar.subi v109_20_r0 c1_i32_112_r0
  let v111_r0 : BitVec 32 := Scalar.select true_113_r0 v110_r0 v109_20_r0
  let c_m1_i32_114_r0 : BitVec 32 := 4294967295#32
  let v112_r0 : BitVec 1 := Scalar.cmpi .eq v111_r0 c_m1_i32_114_r0
  let c9_i32_115_r0 : BitVec 32 := 9#32
  let v113_r0 : BitVec 32 := Scalar.select v112_r0 c9_i32_115_r0 v111_r0
  let c0_i32_116_r0 : BitVec 32 := 0#32
  let v114_r0 : BitVec 32 := Scalar.addi v113_r0 c0_i32_116_r0
  let v136_r0 : BitVec 32 := Scalar.muli c5_i32_138_r0 v114_r0
  let c0_i32_139_r0 : BitVec 32 := 0#32
  let v137_r0 : BitVec 32 := Scalar.addi v136_r0 c0_i32_139_r0
  let v138_r0 : BitVec 32 := Scalar.muli c2000_i32_140_r0 v137_r0
  let c0_i32_141_r0 : BitVec 32 := 0#32
  ![v138_r0.toNat, 0]

def k0_off90 (v109_11_r0 : BitVec 32) : Fin 3 → Nat :=
  let c2_i32_137_r0 : BitVec 32 := 2#32
  let v135_r0 : BitVec 32 := Scalar.remui v109_11_r0 c2_i32_137_r0
  let c0_i32_142_r0 : BitVec 32 := 0#32
  let c0_i32_143_r0 : BitVec 32 := 0#32
  ![v135_r0.toNat, 0, 0]

def k0_chk12 (v109_11_r0 : BitVec 32) : Prop :=
  (∀ a, (k0_off88 v109_11_r0) a + S1.size a ≤ S2.size a) ∧
  (∀ a, (k0_off90 v109_11_r0) a + S1x2000x128.size a ≤ S2x2000x128.size a)
theorem k0_off88_inb : ∀ (v109_11_r0 : BitVec 32) (k0_hw12 : k0_chk12 v109_11_r0), ∀ a, (k0_off88 v109_11_r0) a + S1.size a ≤ S2.size a := fun v109_11_r0 k0_hw12 => k0_hw12.1
theorem k0_off90_inb : ∀ (v109_11_r0 : BitVec 32) (k0_hw12 : k0_chk12 v109_11_r0), ∀ a, (k0_off90 v109_11_r0) a + S1x2000x128.size a ≤ S2x2000x128.size a := fun v109_11_r0 k0_hw12 => k0_hw12.2

def k0_off91 (v109_13_r0 : BitVec 32) : Fin 1 → Nat :=
  let c2_i32_144_r0 : BitVec 32 := 2#32
  let v144_r0 : BitVec 32 := Scalar.remui v109_13_r0 c2_i32_144_r0
  ![v144_r0.toNat]

def k0_off92 (v109_20_r0 : BitVec 32) : Fin 2 → Nat :=
  let c2000_i32_147_r0 : BitVec 32 := 2000#32
  let c5_i32_145_r0 : BitVec 32 := 5#32
  let true_113_r0 : BitVec 1 := 1#1
  let c1_i32_112_r0 : BitVec 32 := 1#32
  let v110_r0 : BitVec 32 := Scalar.subi v109_20_r0 c1_i32_112_r0
  let v111_r0 : BitVec 32 := Scalar.select true_113_r0 v110_r0 v109_20_r0
  let c_m1_i32_114_r0 : BitVec 32 := 4294967295#32
  let v112_r0 : BitVec 1 := Scalar.cmpi .eq v111_r0 c_m1_i32_114_r0
  let c9_i32_115_r0 : BitVec 32 := 9#32
  let v113_r0 : BitVec 32 := Scalar.select v112_r0 c9_i32_115_r0 v111_r0
  let c0_i32_116_r0 : BitVec 32 := 0#32
  let v114_r0 : BitVec 32 := Scalar.addi v113_r0 c0_i32_116_r0
  let v145_r0 : BitVec 32 := Scalar.muli c5_i32_145_r0 v114_r0
  let c1_i32_146_r0 : BitVec 32 := 1#32
  let v146_r0 : BitVec 32 := Scalar.addi v145_r0 c1_i32_146_r0
  let v147_r0 : BitVec 32 := Scalar.muli c2000_i32_147_r0 v146_r0
  let c0_i32_148_r0 : BitVec 32 := 0#32
  ![v147_r0.toNat, 0]
def k0_off93 (v109_13_r0 : BitVec 32) : Fin 3 → Nat :=
  let c2_i32_144_r0 : BitVec 32 := 2#32
  let v144_r0 : BitVec 32 := Scalar.remui v109_13_r0 c2_i32_144_r0
  let c0_i32_149_r0 : BitVec 32 := 0#32
  let c0_i32_150_r0 : BitVec 32 := 0#32
  ![v144_r0.toNat, 0, 0]

def k0_chk14 (v109_13_r0 : BitVec 32) : Prop :=
  (∀ a, (k0_off91 v109_13_r0) a + S1.size a ≤ S2.size a) ∧
  (∀ a, (k0_off93 v109_13_r0) a + S1x2000x128.size a ≤ S2x2000x128.size a)
theorem k0_off91_inb : ∀ (v109_13_r0 : BitVec 32) (k0_hw14 : k0_chk14 v109_13_r0), ∀ a, (k0_off91 v109_13_r0) a + S1.size a ≤ S2.size a := fun v109_13_r0 k0_hw14 => k0_hw14.1
theorem k0_off93_inb : ∀ (v109_13_r0 : BitVec 32) (k0_hw14 : k0_chk14 v109_13_r0), ∀ a, (k0_off93 v109_13_r0) a + S1x2000x128.size a ≤ S2x2000x128.size a := fun v109_13_r0 k0_hw14 => k0_hw14.2

def k0_off94 (v109_15_r0 : BitVec 32) : Fin 1 → Nat :=
  let c2_i32_151_r0 : BitVec 32 := 2#32
  let v153_r0 : BitVec 32 := Scalar.remui v109_15_r0 c2_i32_151_r0
  ![v153_r0.toNat]

def k0_off95 (v109_20_r0 : BitVec 32) : Fin 2 → Nat :=
  let c2000_i32_154_r0 : BitVec 32 := 2000#32
  let c5_i32_152_r0 : BitVec 32 := 5#32
  let true_113_r0 : BitVec 1 := 1#1
  let c1_i32_112_r0 : BitVec 32 := 1#32
  let v110_r0 : BitVec 32 := Scalar.subi v109_20_r0 c1_i32_112_r0
  let v111_r0 : BitVec 32 := Scalar.select true_113_r0 v110_r0 v109_20_r0
  let c_m1_i32_114_r0 : BitVec 32 := 4294967295#32
  let v112_r0 : BitVec 1 := Scalar.cmpi .eq v111_r0 c_m1_i32_114_r0
  let c9_i32_115_r0 : BitVec 32 := 9#32
  let v113_r0 : BitVec 32 := Scalar.select v112_r0 c9_i32_115_r0 v111_r0
  let c0_i32_116_r0 : BitVec 32 := 0#32
  let v114_r0 : BitVec 32 := Scalar.addi v113_r0 c0_i32_116_r0
  let v154_r0 : BitVec 32 := Scalar.muli c5_i32_152_r0 v114_r0
  let c2_i32_153_r0 : BitVec 32 := 2#32
  let v155_r0 : BitVec 32 := Scalar.addi v154_r0 c2_i32_153_r0
  let v156_r0 : BitVec 32 := Scalar.muli c2000_i32_154_r0 v155_r0
  let c0_i32_155_r0 : BitVec 32 := 0#32
  ![v156_r0.toNat, 0]
def k0_off96 (v109_15_r0 : BitVec 32) : Fin 3 → Nat :=
  let c2_i32_151_r0 : BitVec 32 := 2#32
  let v153_r0 : BitVec 32 := Scalar.remui v109_15_r0 c2_i32_151_r0
  let c0_i32_156_r0 : BitVec 32 := 0#32
  let c0_i32_157_r0 : BitVec 32 := 0#32
  ![v153_r0.toNat, 0, 0]

def k0_chk15 (v109_15_r0 : BitVec 32) : Prop :=
  (∀ a, (k0_off94 v109_15_r0) a + S1.size a ≤ S2.size a) ∧
  (∀ a, (k0_off96 v109_15_r0) a + S1x2000x128.size a ≤ S2x2000x128.size a)
theorem k0_off94_inb : ∀ (v109_15_r0 : BitVec 32) (k0_hw15 : k0_chk15 v109_15_r0), ∀ a, (k0_off94 v109_15_r0) a + S1.size a ≤ S2.size a := fun v109_15_r0 k0_hw15 => k0_hw15.1
theorem k0_off96_inb : ∀ (v109_15_r0 : BitVec 32) (k0_hw15 : k0_chk15 v109_15_r0), ∀ a, (k0_off96 v109_15_r0) a + S1x2000x128.size a ≤ S2x2000x128.size a := fun v109_15_r0 k0_hw15 => k0_hw15.2

def k0_off97 (v109_17_r0 : BitVec 32) : Fin 1 → Nat :=
  let c2_i32_158_r0 : BitVec 32 := 2#32
  let v162_r0 : BitVec 32 := Scalar.remui v109_17_r0 c2_i32_158_r0
  ![v162_r0.toNat]

def k0_off98 (v109_20_r0 : BitVec 32) : Fin 2 → Nat :=
  let c2000_i32_161_r0 : BitVec 32 := 2000#32
  let c5_i32_159_r0 : BitVec 32 := 5#32
  let true_113_r0 : BitVec 1 := 1#1
  let c1_i32_112_r0 : BitVec 32 := 1#32
  let v110_r0 : BitVec 32 := Scalar.subi v109_20_r0 c1_i32_112_r0
  let v111_r0 : BitVec 32 := Scalar.select true_113_r0 v110_r0 v109_20_r0
  let c_m1_i32_114_r0 : BitVec 32 := 4294967295#32
  let v112_r0 : BitVec 1 := Scalar.cmpi .eq v111_r0 c_m1_i32_114_r0
  let c9_i32_115_r0 : BitVec 32 := 9#32
  let v113_r0 : BitVec 32 := Scalar.select v112_r0 c9_i32_115_r0 v111_r0
  let c0_i32_116_r0 : BitVec 32 := 0#32
  let v114_r0 : BitVec 32 := Scalar.addi v113_r0 c0_i32_116_r0
  let v163_r0 : BitVec 32 := Scalar.muli c5_i32_159_r0 v114_r0
  let c3_i32_160_r0 : BitVec 32 := 3#32
  let v164_r0 : BitVec 32 := Scalar.addi v163_r0 c3_i32_160_r0
  let v165_r0 : BitVec 32 := Scalar.muli c2000_i32_161_r0 v164_r0
  let c0_i32_162_r0 : BitVec 32 := 0#32
  ![v165_r0.toNat, 0]
def k0_off99 (v109_17_r0 : BitVec 32) : Fin 3 → Nat :=
  let c2_i32_158_r0 : BitVec 32 := 2#32
  let v162_r0 : BitVec 32 := Scalar.remui v109_17_r0 c2_i32_158_r0
  let c0_i32_163_r0 : BitVec 32 := 0#32
  let c0_i32_164_r0 : BitVec 32 := 0#32
  ![v162_r0.toNat, 0, 0]

def k0_chk16 (v109_17_r0 : BitVec 32) : Prop :=
  (∀ a, (k0_off97 v109_17_r0) a + S1.size a ≤ S2.size a) ∧
  (∀ a, (k0_off99 v109_17_r0) a + S1x2000x128.size a ≤ S2x2000x128.size a)
theorem k0_off97_inb : ∀ (v109_17_r0 : BitVec 32) (k0_hw16 : k0_chk16 v109_17_r0), ∀ a, (k0_off97 v109_17_r0) a + S1.size a ≤ S2.size a := fun v109_17_r0 k0_hw16 => k0_hw16.1
theorem k0_off99_inb : ∀ (v109_17_r0 : BitVec 32) (k0_hw16 : k0_chk16 v109_17_r0), ∀ a, (k0_off99 v109_17_r0) a + S1x2000x128.size a ≤ S2x2000x128.size a := fun v109_17_r0 k0_hw16 => k0_hw16.2

def k0_off100 (v109_19_r0 : BitVec 32) : Fin 1 → Nat :=
  let c2_i32_165_r0 : BitVec 32 := 2#32
  let v171_r0 : BitVec 32 := Scalar.remui v109_19_r0 c2_i32_165_r0
  ![v171_r0.toNat]

def k0_off101 (v109_20_r0 : BitVec 32) : Fin 2 → Nat :=
  let c2000_i32_168_r0 : BitVec 32 := 2000#32
  let c5_i32_166_r0 : BitVec 32 := 5#32
  let true_113_r0 : BitVec 1 := 1#1
  let c1_i32_112_r0 : BitVec 32 := 1#32
  let v110_r0 : BitVec 32 := Scalar.subi v109_20_r0 c1_i32_112_r0
  let v111_r0 : BitVec 32 := Scalar.select true_113_r0 v110_r0 v109_20_r0
  let c_m1_i32_114_r0 : BitVec 32 := 4294967295#32
  let v112_r0 : BitVec 1 := Scalar.cmpi .eq v111_r0 c_m1_i32_114_r0
  let c9_i32_115_r0 : BitVec 32 := 9#32
  let v113_r0 : BitVec 32 := Scalar.select v112_r0 c9_i32_115_r0 v111_r0
  let c0_i32_116_r0 : BitVec 32 := 0#32
  let v114_r0 : BitVec 32 := Scalar.addi v113_r0 c0_i32_116_r0
  let v172_r0 : BitVec 32 := Scalar.muli c5_i32_166_r0 v114_r0
  let c4_i32_167_r0 : BitVec 32 := 4#32
  let v173_r0 : BitVec 32 := Scalar.addi v172_r0 c4_i32_167_r0
  let v174_r0 : BitVec 32 := Scalar.muli c2000_i32_168_r0 v173_r0
  let c0_i32_169_r0 : BitVec 32 := 0#32
  ![v174_r0.toNat, 0]

def k0_chk13 (v109_20_r0 : BitVec 32) : Prop :=
  (∀ a, (k0_off89 v109_20_r0) a + S2000x128.size a ≤ S100000x128.size a) ∧
  (∀ a, (k0_off92 v109_20_r0) a + S2000x128.size a ≤ S100000x128.size a) ∧
  (∀ a, (k0_off95 v109_20_r0) a + S2000x128.size a ≤ S100000x128.size a) ∧
  (∀ a, (k0_off98 v109_20_r0) a + S2000x128.size a ≤ S100000x128.size a) ∧
  (∀ a, (k0_off101 v109_20_r0) a + S2000x128.size a ≤ S100000x128.size a)
theorem k0_off89_inb : ∀ (v109_20_r0 : BitVec 32) (k0_hw13 : k0_chk13 v109_20_r0), ∀ a, (k0_off89 v109_20_r0) a + S2000x128.size a ≤ S100000x128.size a := fun v109_20_r0 k0_hw13 => k0_hw13.1
theorem k0_off92_inb : ∀ (v109_20_r0 : BitVec 32) (k0_hw13 : k0_chk13 v109_20_r0), ∀ a, (k0_off92 v109_20_r0) a + S2000x128.size a ≤ S100000x128.size a := fun v109_20_r0 k0_hw13 => k0_hw13.2.1
theorem k0_off95_inb : ∀ (v109_20_r0 : BitVec 32) (k0_hw13 : k0_chk13 v109_20_r0), ∀ a, (k0_off95 v109_20_r0) a + S2000x128.size a ≤ S100000x128.size a := fun v109_20_r0 k0_hw13 => k0_hw13.2.2.1
theorem k0_off98_inb : ∀ (v109_20_r0 : BitVec 32) (k0_hw13 : k0_chk13 v109_20_r0), ∀ a, (k0_off98 v109_20_r0) a + S2000x128.size a ≤ S100000x128.size a := fun v109_20_r0 k0_hw13 => k0_hw13.2.2.2.1
theorem k0_off101_inb : ∀ (v109_20_r0 : BitVec 32) (k0_hw13 : k0_chk13 v109_20_r0), ∀ a, (k0_off101 v109_20_r0) a + S2000x128.size a ≤ S100000x128.size a := fun v109_20_r0 k0_hw13 => k0_hw13.2.2.2.2

def k0_off102 (v109_19_r0 : BitVec 32) : Fin 3 → Nat :=
  let c2_i32_165_r0 : BitVec 32 := 2#32
  let v171_r0 : BitVec 32 := Scalar.remui v109_19_r0 c2_i32_165_r0
  let c0_i32_170_r0 : BitVec 32 := 0#32
  let c0_i32_171_r0 : BitVec 32 := 0#32
  ![v171_r0.toNat, 0, 0]

def k0_chk17 (v109_19_r0 : BitVec 32) : Prop :=
  (∀ a, (k0_off100 v109_19_r0) a + S1.size a ≤ S2.size a) ∧
  (∀ a, (k0_off102 v109_19_r0) a + S1x2000x128.size a ≤ S2x2000x128.size a)
theorem k0_off100_inb : ∀ (v109_19_r0 : BitVec 32) (k0_hw17 : k0_chk17 v109_19_r0), ∀ a, (k0_off100 v109_19_r0) a + S1.size a ≤ S2.size a := fun v109_19_r0 k0_hw17 => k0_hw17.1
theorem k0_off102_inb : ∀ (v109_19_r0 : BitVec 32) (k0_hw17 : k0_chk17 v109_19_r0), ∀ a, (k0_off102 v109_19_r0) a + S1x2000x128.size a ≤ S2x2000x128.size a := fun v109_19_r0 k0_hw17 => k0_hw17.2

abbrev stage0_0 : Fin 1 → Memref sig .tc .vmem S129x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S100000x129 : Shape := ⟨2, ![100000, 129]⟩
abbrev S128x128 : Shape := ⟨2, ![128, 128]⟩
abbrev S128 : Shape := ⟨1, ![128]⟩
abbrev S64x128 : Shape := ⟨2, ![64, 128]⟩
abbrev S100000x1 : Shape := ⟨2, ![100000, 1]⟩
abbrev S100000 : Shape := ⟨1, ![100000]⟩
abbrev S_ : Shape := ⟨0, ![]⟩
abbrev S100000x128 : Shape := ⟨2, ![100000, 128]⟩
abbrev S100000x64 : Shape := ⟨2, ![100000, 64]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x129, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000x1, .f32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .i1⟩
  | .hbm, ⟨14, _⟩ => ⟨S100000x1, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000x128, .f32⟩
  | .hbm, ⟨20, _⟩ => ⟨S100000x64, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S_, .f32⟩
  | .hbm, ⟨27, _⟩ => ⟨S100000x128, .f32⟩
  | .hbm, ⟨28, _⟩ => ⟨S100000x128, .i1⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S_, .f32⟩
  | .hbm, ⟨43, _⟩ => ⟨S100000x128, .f32⟩
  | .hbm, ⟨44, _⟩ => ⟨S100000x128, .i1⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S100000x1, .i1⟩
  | .hbm, ⟨54, _⟩ => ⟨S_, .f32⟩
  | .hbm, ⟨55, _⟩ => ⟨S_, .f32⟩
  | .hbm, ⟨56, _⟩ => ⟨S100000x128, .i1⟩
  | .hbm, ⟨57, _⟩ => ⟨S100000x128, .f32⟩
  | .hbm, ⟨58, _⟩ => ⟨S100000x128, .f32⟩
  | .hbm, ⟨59, _⟩ => ⟨S100000x1, .i1⟩
  | .hbm, ⟨60, _⟩ => ⟨S_, .f32⟩
  | .hbm, ⟨61, _⟩ => ⟨S_, .f32⟩
  | .hbm, ⟨62, _⟩ => ⟨S100000x128, .i1⟩
  | .hbm, ⟨63, _⟩ => ⟨S100000x128, .f32⟩
  | .hbm, ⟨64, _⟩ => ⟨S100000x128, .f32⟩
  | .hbm, ⟨65, _⟩ => ⟨S100000x128, .f32⟩
  | _, _ => ⟨S100000x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v29 : Ref sig .tc := ⟨.hbm, 58, rfl⟩
abbrev main_v30 : Ref sig .tc := ⟨.hbm, 59, rfl⟩
abbrev main_cst_4 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v31 : Ref sig .tc := ⟨.hbm, 64, rfl⟩
abbrev main_v32 : Ref sig .tc := ⟨.hbm, 65, rfl⟩

abbrev nD : Nat := 1
abbrev τ : Topo := Topo.v7x

variable {F : FTy → Type} [FloatOps F]
-- ==== Proof.Names.lean ====
module

public import proofs.«01_k».proof.Proof.Gen.KernelIdeal.Frame

/-! # The words the loop carries, and canonical names for what the kernel slices

The pipeline's loop carries twenty-one words: for each of the five input windows the step issued and the step
waited for, for each of the five result windows the step issued and the step waited for, and the grid index. All
are functions of the trip. This module states them, and names the slot, the semaphore and the row block each
computed offset denotes. -/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

/-- A trip of the pipeline's loop. -/
abbrev Trip : Type := Fin k0_t1_loop.trips

/-- There are ten trips. -/
theorem trips_eq : k0_t1_loop.trips = 10 := by decide
theorem trip_lt (k : Trip) : k.val < 10 := Nat.lt_of_lt_of_eq k.isLt trips_eq

/-- The step an input window has been issued up to, before trip `k`: two ahead, no more than ten. -/
def wI (k : ℕ) : BitVec 32 := BitVec.ofNat 32 (min (k + 2) 10)
/-- The step an input window is waited for, and the step a result window is issued for, at trip `k`. -/
def wK (k : ℕ) : BitVec 32 := BitVec.ofNat 32 k
/-- The step a result window is waited for at trip `k`: one behind. -/
def wO (k : ℕ) : BitVec 32 := BitVec.ofNat 32 (k - 1)
/-- The grid index at trip `k`, wrapping at ten. -/
def wG (k : ℕ) : BitVec 32 := BitVec.ofNat 32 (k % 10)

/-- The twenty-one words carried into trip `k`. -/
@[reducible] def accAt (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wI k, wK k, wI k, wK k, wI k, wK k, wI k, wK k, wI k, wK k, wK k, wO k, wK k, wO k, wK k, wO k, wK k, wO k, wK k, wO k, wG k)

/-! ## Offsets -/

abbrev sem3Off (s : Fin 3) : Fin 1 → Nat := ![s.val]
abbrev sem2Off (s : Fin 2) : Fin 1 → Nat := ![s.val]
abbrev slot3Off (s : Fin 3) : Fin 3 → Nat := ![s.val, 0, 0]
abbrev slot2Off (s : Fin 2) : Fin 3 → Nat := ![s.val, 0, 0]
/-- Row block `i` of window `j`: block `5 i + j` of two thousand rows. -/
abbrev rowOff (j : Fin 5) (i : Fin 10) : Fin 2 → Nat := ![2000 * (5 * i.val + j.val), 0]

theorem sem3Off_inb (s : Fin 3) : ∀ a, sem3Off s a + S1.size a ≤ S3.size a := by revert s; decide
theorem sem2Off_inb (s : Fin 2) : ∀ a, sem2Off s a + S1.size a ≤ S2.size a := by revert s; decide
theorem slot3Off_inb (s : Fin 3) : ∀ a, slot3Off s a + S1x2000x129.size a ≤ S3x2000x129.size a := by revert s; decide
theorem slot2Off_inb (s : Fin 2) : ∀ a, slot2Off s a + S1x2000x128.size a ≤ S2x2000x128.size a := by revert s; decide
theorem xOff_inb (j : Fin 5) (i : Fin 10) : ∀ a, rowOff j i a + S2000x129.size a ≤ S100000x129.size a := by revert j i; decide
theorem oOff_inb (j : Fin 5) (i : Fin 10) : ∀ a, rowOff j i a + S2000x128.size a ≤ S100000x128.size a := by revert j i; decide

/-- The prologue issues steps 0 and 1 of every input window. -/
theorem pro_off :
    k0_off1 = sem3Off 0
    ∧ k0_off2 = slot3Off 0
    ∧ k0_off3 = sem3Off 1
    ∧ k0_off4 = slot3Off 1
    ∧ k0_off5 = rowOff 0 1
    ∧ k0_off6 = sem3Off 1
    ∧ k0_off7 = slot3Off 1
    ∧ k0_off8 = rowOff 1 1
    ∧ k0_off9 = sem3Off 1
    ∧ k0_off10 = slot3Off 1
    ∧ k0_off11 = rowOff 2 1
    ∧ k0_off12 = sem3Off 1
    ∧ k0_off13 = slot3Off 1
    ∧ k0_off14 = rowOff 3 1
    ∧ k0_off15 = sem3Off 1
    ∧ k0_off16 = slot3Off 1
    ∧ k0_off17 = rowOff 4 1 := by
  decide

/-- The prologue issues step 1 of every window. -/
theorem pro_cond : k0_cond1 = 1#1 ∧ k0_cond2 = 1#1 ∧ k0_cond3 = 1#1 ∧ k0_cond4 = 1#1 ∧ k0_cond5 = 1#1 := by decide

/-- Trip `k` issues step `k + 2` of every input window. -/
theorem issue_off (k : Trip) (h : k.val + 2 < 10) :
    k0_off18 (wI k.val) = sem3Off (Ring.sl 3 (k.val + 2))
    ∧ k0_off19 (wI k.val) = slot3Off (Ring.sl 3 (k.val + 2))
    ∧ k0_off20 (wG k.val) = rowOff 0 (Ring.bk 10 (k.val + 2))
    ∧ k0_off21 (wI k.val) = sem3Off (Ring.sl 3 (k.val + 2))
    ∧ k0_off22 (wI k.val) = slot3Off (Ring.sl 3 (k.val + 2))
    ∧ k0_off23 (wG k.val) = rowOff 1 (Ring.bk 10 (k.val + 2))
    ∧ k0_off24 (wI k.val) = sem3Off (Ring.sl 3 (k.val + 2))
    ∧ k0_off25 (wI k.val) = slot3Off (Ring.sl 3 (k.val + 2))
    ∧ k0_off26 (wG k.val) = rowOff 2 (Ring.bk 10 (k.val + 2))
    ∧ k0_off27 (wI k.val) = sem3Off (Ring.sl 3 (k.val + 2))
    ∧ k0_off28 (wI k.val) = slot3Off (Ring.sl 3 (k.val + 2))
    ∧ k0_off29 (wG k.val) = rowOff 3 (Ring.bk 10 (k.val + 2))
    ∧ k0_off30 (wI k.val) = sem3Off (Ring.sl 3 (k.val + 2))
    ∧ k0_off31 (wI k.val) = slot3Off (Ring.sl 3 (k.val + 2))
    ∧ k0_off32 (wG k.val) = rowOff 4 (Ring.bk 10 (k.val + 2)) := by
  revert k; decide +kernel

/-- Trip `k` waits for step `k` of every input window. -/
theorem wait_off (k : Trip)  :
    k0_off33 (wK k.val) = sem3Off (Ring.sl 3 k.val)
    ∧ k0_off34 (wK k.val) = slot3Off (Ring.sl 3 k.val)
    ∧ k0_off35 (wG k.val) = rowOff 0 (Ring.bk 10 k.val)
    ∧ k0_off36 (wK k.val) = sem3Off (Ring.sl 3 k.val)
    ∧ k0_off37 (wK k.val) = slot3Off (Ring.sl 3 k.val)
    ∧ k0_off38 (wG k.val) = rowOff 1 (Ring.bk 10 k.val)
    ∧ k0_off39 (wK k.val) = sem3Off (Ring.sl 3 k.val)
    ∧ k0_off40 (wK k.val) = slot3Off (Ring.sl 3 k.val)
    ∧ k0_off41 (wG k.val) = rowOff 2 (Ring.bk 10 k.val)
    ∧ k0_off42 (wK k.val) = sem3Off (Ring.sl 3 k.val)
    ∧ k0_off43 (wK k.val) = slot3Off (Ring.sl 3 k.val)
    ∧ k0_off44 (wG k.val) = rowOff 3 (Ring.bk 10 k.val)
    ∧ k0_off45 (wK k.val) = sem3Off (Ring.sl 3 k.val)
    ∧ k0_off46 (wK k.val) = slot3Off (Ring.sl 3 k.val)
    ∧ k0_off47 (wG k.val) = rowOff 4 (Ring.bk 10 k.val) := by
  revert k; decide +kernel

/-- Trip `k` issues step `k` of every result window. -/
theorem out_off (k : Trip)  :
    k0_off58 (wK k.val) = sem2Off (Ring.sl 2 k.val)
    ∧ k0_off59 (wG k.val) = rowOff 0 (Ring.bk 10 k.val)
    ∧ k0_off60 (wK k.val) = slot2Off (Ring.sl 2 k.val)
    ∧ k0_off61 (wK k.val) = sem2Off (Ring.sl 2 k.val)
    ∧ k0_off62 (wG k.val) = rowOff 1 (Ring.bk 10 k.val)
    ∧ k0_off63 (wK k.val) = slot2Off (Ring.sl 2 k.val)
    ∧ k0_off64 (wK k.val) = sem2Off (Ring.sl 2 k.val)
    ∧ k0_off65 (wG k.val) = rowOff 2 (Ring.bk 10 k.val)
    ∧ k0_off66 (wK k.val) = slot2Off (Ring.sl 2 k.val)
    ∧ k0_off67 (wK k.val) = sem2Off (Ring.sl 2 k.val)
    ∧ k0_off68 (wG k.val) = rowOff 3 (Ring.bk 10 k.val)
    ∧ k0_off69 (wK k.val) = slot2Off (Ring.sl 2 k.val)
    ∧ k0_off70 (wK k.val) = sem2Off (Ring.sl 2 k.val)
    ∧ k0_off71 (wG k.val) = rowOff 4 (Ring.bk 10 k.val)
    ∧ k0_off72 (wK k.val) = slot2Off (Ring.sl 2 k.val) := by
  revert k; decide +kernel

/-- Trip `k` waits for step `k - 1` of every result window (slot `k + 1` of the two). -/
theorem behind_off (k : Trip) (h : 1 ≤ k.val) :
    k0_off73 (wO k.val) = sem2Off (Ring.sl 2 (k.val + 1))
    ∧ k0_off74 (wG k.val) = rowOff 0 (Ring.bk 10 (k.val - 1))
    ∧ k0_off75 (wO k.val) = slot2Off (Ring.sl 2 (k.val + 1))
    ∧ k0_off76 (wO k.val) = sem2Off (Ring.sl 2 (k.val + 1))
    ∧ k0_off77 (wG k.val) = rowOff 1 (Ring.bk 10 (k.val - 1))
    ∧ k0_off78 (wO k.val) = slot2Off (Ring.sl 2 (k.val + 1))
    ∧ k0_off79 (wO k.val) = sem2Off (Ring.sl 2 (k.val + 1))
    ∧ k0_off80 (wG k.val) = rowOff 2 (Ring.bk 10 (k.val - 1))
    ∧ k0_off81 (wO k.val) = slot2Off (Ring.sl 2 (k.val + 1))
    ∧ k0_off82 (wO k.val) = sem2Off (Ring.sl 2 (k.val + 1))
    ∧ k0_off83 (wG k.val) = rowOff 3 (Ring.bk 10 (k.val - 1))
    ∧ k0_off84 (wO k.val) = slot2Off (Ring.sl 2 (k.val + 1))
    ∧ k0_off85 (wO k.val) = sem2Off (Ring.sl 2 (k.val + 1))
    ∧ k0_off86 (wG k.val) = rowOff 4 (Ring.bk 10 (k.val - 1))
    ∧ k0_off87 (wO k.val) = slot2Off (Ring.sl 2 (k.val + 1)) := by
  revert k; decide +kernel

/-- The epilogue waits for step 9 of every result window. -/
theorem epi_off :
    k0_off88 (wO 10) = sem2Off (Ring.sl 2 (10 + 1))
    ∧ k0_off89 (wG 10) = rowOff 0 (Ring.bk 10 (10 - 1))
    ∧ k0_off90 (wO 10) = slot2Off (Ring.sl 2 (10 + 1))
    ∧ k0_off91 (wO 10) = sem2Off (Ring.sl 2 (10 + 1))
    ∧ k0_off92 (wG 10) = rowOff 1 (Ring.bk 10 (10 - 1))
    ∧ k0_off93 (wO 10) = slot2Off (Ring.sl 2 (10 + 1))
    ∧ k0_off94 (wO 10) = sem2Off (Ring.sl 2 (10 + 1))
    ∧ k0_off95 (wG 10) = rowOff 2 (Ring.bk 10 (10 - 1))
    ∧ k0_off96 (wO 10) = slot2Off (Ring.sl 2 (10 + 1))
    ∧ k0_off97 (wO 10) = sem2Off (Ring.sl 2 (10 + 1))
    ∧ k0_off98 (wG 10) = rowOff 3 (Ring.bk 10 (10 - 1))
    ∧ k0_off99 (wO 10) = slot2Off (Ring.sl 2 (10 + 1))
    ∧ k0_off100 (wO 10) = sem2Off (Ring.sl 2 (10 + 1))
    ∧ k0_off101 (wG 10) = rowOff 4 (Ring.bk 10 (10 - 1))
    ∧ k0_off102 (wO 10) = slot2Off (Ring.sl 2 (10 + 1)) := by
  decide +kernel

/-- The load of trip `k` reads slot `k` of the three. -/
theorem load_off (k : Trip) : k0_off48 (wK k.val) = slot3Off (Ring.sl 3 k.val) ∧ k0_off50 (wK k.val) = slot3Off (Ring.sl 3 k.val) ∧ k0_off52 (wK k.val) = slot3Off (Ring.sl 3 k.val) ∧ k0_off54 (wK k.val) = slot3Off (Ring.sl 3 k.val) ∧ k0_off56 (wK k.val) = slot3Off (Ring.sl 3 k.val) := by
  revert k; decide +kernel
/-- The store of trip `k` writes slot `k` of the two. -/
theorem store_off (k : Trip) : k0_off49 (wK k.val) = slot2Off (Ring.sl 2 k.val) ∧ k0_off51 (wK k.val) = slot2Off (Ring.sl 2 k.val) ∧ k0_off53 (wK k.val) = slot2Off (Ring.sl 2 k.val) ∧ k0_off55 (wK k.val) = slot2Off (Ring.sl 2 k.val) ∧ k0_off57 (wK k.val) = slot2Off (Ring.sl 2 k.val) := by
  revert k; decide +kernel

instance (k : Trip) : ClosedOff (k0_off48 (wK k.val)) := ⟨slot3Off (Ring.sl 3 k.val), (load_off k).1⟩
instance (k : Trip) : ClosedOff (k0_off49 (wK k.val)) := ⟨slot2Off (Ring.sl 2 k.val), (store_off k).1⟩
instance (k : Trip) : ClosedOff (k0_off50 (wK k.val)) := ⟨slot3Off (Ring.sl 3 k.val), (load_off k).2.1⟩
instance (k : Trip) : ClosedOff (k0_off51 (wK k.val)) := ⟨slot2Off (Ring.sl 2 k.val), (store_off k).2.1⟩
instance (k : Trip) : ClosedOff (k0_off52 (wK k.val)) := ⟨slot3Off (Ring.sl 3 k.val), (load_off k).2.2.1⟩
instance (k : Trip) : ClosedOff (k0_off53 (wK k.val)) := ⟨slot2Off (Ring.sl 2 k.val), (store_off k).2.2.1⟩
instance (k : Trip) : ClosedOff (k0_off54 (wK k.val)) := ⟨slot3Off (Ring.sl 3 k.val), (load_off k).2.2.2.1⟩
instance (k : Trip) : ClosedOff (k0_off55 (wK k.val)) := ⟨slot2Off (Ring.sl 2 k.val), (store_off k).2.2.2.1⟩
instance (k : Trip) : ClosedOff (k0_off56 (wK k.val)) := ⟨slot3Off (Ring.sl 3 k.val), (load_off k).2.2.2.2⟩
instance (k : Trip) : ClosedOff (k0_off57 (wK k.val)) := ⟨slot2Off (Ring.sl 2 k.val), (store_off k).2.2.2.2⟩
instance (s : Fin 3) : ClosedOff (slot3Off s) := ⟨slot3Off s, rfl⟩
instance (s : Fin 2) : ClosedOff (slot2Off s) := ⟨slot2Off s, rfl⟩
instance (j : Fin 5) (i : Fin 10) : ClosedOff (rowOff j i) := ⟨rowOff j i, rfl⟩

/-! ## Conditions and checks -/

/-- Trip `k` issues its input steps exactly when step `k + 2` exists. -/
theorem issue_cond (k : Trip) (h : k.val + 2 < 10) : k0_cond6 k (wG k.val) = 1#1 ∧ k0_cond7 k (wG k.val) = 1#1 ∧ k0_cond8 k (wG k.val) = 1#1 ∧ k0_cond9 k (wG k.val) = 1#1 ∧ k0_cond10 k (wG k.val) = 1#1 := by
  revert k; decide +kernel
theorem no_issue_cond (k : Trip) (h : ¬ k.val + 2 < 10) : ¬ k0_cond6 k (wG k.val) = 1#1 ∧ ¬ k0_cond7 k (wG k.val) = 1#1 ∧ ¬ k0_cond8 k (wG k.val) = 1#1 ∧ ¬ k0_cond9 k (wG k.val) = 1#1 ∧ ¬ k0_cond10 k (wG k.val) = 1#1 := by
  revert k; decide +kernel
/-- Every trip waits for its input steps -/
theorem wait_cond (k : Trip) : k0_cond11 k (wG k.val) = 1#1 ∧ k0_cond12 k (wG k.val) = 1#1 ∧ k0_cond13 k (wG k.val) = 1#1 ∧ k0_cond14 k (wG k.val) = 1#1 ∧ k0_cond15 k (wG k.val) = 1#1 := by
  revert k; decide +kernel
/-- and issues its result steps; -/
theorem out_cond (k : Trip) : k0_cond26 k (wG k.val) = 1#1 ∧ k0_cond27 k (wG k.val) = 1#1 ∧ k0_cond28 k (wG k.val) = 1#1 ∧ k0_cond29 k (wG k.val) = 1#1 ∧ k0_cond30 k (wG k.val) = 1#1 := by
  revert k; decide +kernel
/-- every trip but the first waits for the result steps before. -/
theorem behind_cond (k : Trip) (h : 1 ≤ k.val) : k0_cond36 k (wG k.val) = 1#1 ∧ k0_cond37 k (wG k.val) = 1#1 ∧ k0_cond38 k (wG k.val) = 1#1 ∧ k0_cond39 k (wG k.val) = 1#1 ∧ k0_cond40 k (wG k.val) = 1#1 := by
  revert k; decide +kernel
theorem no_behind_cond (k : Trip) (h : ¬ 1 ≤ k.val) : ¬ k0_cond36 k (wG k.val) = 1#1 ∧ ¬ k0_cond37 k (wG k.val) = 1#1 ∧ ¬ k0_cond38 k (wG k.val) = 1#1 ∧ ¬ k0_cond39 k (wG k.val) = 1#1 ∧ ¬ k0_cond40 k (wG k.val) = 1#1 := by
  revert k; decide +kernel

set_option synthInstance.maxSize 1000000 in
set_option maxRecDepth 100000 in
/-- Every slice a trip takes lies inside its array. -/
theorem chk_trip (k : Trip) :
    k0_chk1 k (wI k.val) (wK k.val) (wI k.val) (wK k.val) (wI k.val) (wK k.val) (wI k.val) (wK k.val) (wI k.val) (wK k.val) (wK k.val) (wO k.val) (wK k.val) (wO k.val) (wK k.val) (wO k.val) (wK k.val) (wO k.val) (wK k.val) (wO k.val) (wG k.val) := by
  revert k; decide +kernel
theorem chk_words (k : Trip) : k0_chk2 (wK k.val) ∧ k0_chk3 (wK k.val) ∧ k0_chk4 (wK k.val) ∧ k0_chk5 (wK k.val) ∧ k0_chk6 (wK k.val) ∧ k0_chk7 (wK k.val) ∧ k0_chk8 (wK k.val) ∧ k0_chk9 (wK k.val) ∧ k0_chk10 (wK k.val) ∧ k0_chk11 (wK k.val) := by
  revert k; decide +kernel
/-- Every slice the epilogue takes lies inside its array. -/
theorem chk_epi : k0_chk12 (wO 10) ∧ k0_chk13 (wG 10) ∧ k0_chk14 (wO 10) ∧ k0_chk15 (wO 10) ∧ k0_chk16 (wO 10) ∧ k0_chk17 (wO 10) := by
  decide +kernel

/-! ## Names -/

/-- Row block `i` of window `j` of `x`. -/
def xblk (j : Fin 5) (i : Fin 10) : Memref sig .tc .hbm S2000x129 .f32 :=
  (Memref.whole main_arg0).slice (Rect.unit (s := S100000x129) (rowOff j i) S2000x129.size (xOff_inb j i)) (fun _ => rfl)
/-- Row block `i` of window `j` of the result. -/
def oblk (j : Fin 5) (i : Fin 10) : Memref sig .tc .hbm S2000x128 .f32 :=
  (Memref.whole main_v0).slice (Rect.unit (s := S100000x128) (rowOff j i) S2000x128.size (oOff_inb j i)) (fun _ => rfl)
/-- Slot `s` of an input window's three. -/
def rslot (B : Memref sig .tc .vmem S3x2000x129 .f32) (s : Fin 3) : Memref sig .tc .vmem S2000x129 .f32 :=
  (B.slice (Rect.unit (s := S3x2000x129) (slot3Off s) S1x2000x129.size (slot3Off_inb s)) (fun _ => rfl)).squeeze S2000x129 squeezes_S1x2000x129_S2000x129
/-- Slot `s` of a result window's two. -/
def wslot (B : Memref sig .tc .vmem S2x2000x128 .f32) (s : Fin 2) : Memref sig .tc .vmem S2000x128 .f32 :=
  (B.slice (Rect.unit (s := S2x2000x128) (slot2Off s) S1x2000x128.size (slot2Off_inb s)) (fun _ => rfl)).squeeze S2000x128 squeezes_S1x2000x128_S2000x128
/-- Slot `s`'s semaphore, of three; of two. -/
def rsem (A : DmaSems sig S3) (s : Fin 3) : DmaSems sig S_ := (A.slice (Rect.unit (s := S3) (sem3Off s) S1.size (sem3Off_inb s))).squeeze S_ squeezes_S1_S_
def wsem (A : DmaSems sig S2) (s : Fin 2) : DmaSems sig S_ := (A.slice (Rect.unit (s := S2) (sem2Off s) S1.size (sem2Off_inb s))).squeeze S_ squeezes_S1_S_

/-! ### The slices the program takes are those names

A slice at an offset equal to a slot's, a semaphore's or a row block's is that slot, semaphore or row block. -/

theorem rsem_congr {off : Fin 1 → Nat} {s : Fin 3} (e : off = sem3Off s) (A : DmaSems sig S3) (h) :
    (A.slice (Rect.unit (s := S3) off S1.size h)).squeeze S_ squeezes_S1_S_ = rsem A s :=
  congrArg (fun A : DmaSems sig S1 => A.squeeze S_ squeezes_S1_S_) (SemArray.slice_unit_congr _ e _ _)
theorem wsem_congr {off : Fin 1 → Nat} {s : Fin 2} (e : off = sem2Off s) (A : DmaSems sig S2) (h) :
    (A.slice (Rect.unit (s := S2) off S1.size h)).squeeze S_ squeezes_S1_S_ = wsem A s :=
  congrArg (fun A : DmaSems sig S1 => A.squeeze S_ squeezes_S1_S_) (SemArray.slice_unit_congr _ e _ _)
theorem rslot_congr {off : Fin 3 → Nat} {s : Fin 3} (e : off = slot3Off s) (B : Memref sig .tc .vmem S3x2000x129 .f32) (h h') :
    (B.slice (Rect.unit (s := S3x2000x129) off S1x2000x129.size h) h').squeeze S2000x129 squeezes_S1x2000x129_S2000x129 = rslot B s :=
  congrArg (fun M : Memref sig .tc .vmem S1x2000x129 .f32 => M.squeeze S2000x129 squeezes_S1x2000x129_S2000x129) (Memref.slice_unit_congr _ e _ _ _ _)
theorem wslot_congr {off : Fin 3 → Nat} {s : Fin 2} (e : off = slot2Off s) (B : Memref sig .tc .vmem S2x2000x128 .f32) (h h') :
    (B.slice (Rect.unit (s := S2x2000x128) off S1x2000x128.size h) h').squeeze S2000x128 squeezes_S1x2000x128_S2000x128 = wslot B s :=
  congrArg (fun M : Memref sig .tc .vmem S1x2000x128 .f32 => M.squeeze S2000x128 squeezes_S1x2000x128_S2000x128) (Memref.slice_unit_congr _ e _ _ _ _)
theorem xblk_congr {off : Fin 2 → Nat} {j : Fin 5} {i : Fin 10} (e : off = rowOff j i) (h h') :
    (Memref.whole main_arg0).slice (Rect.unit (s := S100000x129) off S2000x129.size h) h' = xblk j i :=
  Memref.slice_unit_congr _ e _ _ _ (fun _ => rfl)
theorem oblk_congr {off : Fin 2 → Nat} {j : Fin 5} {i : Fin 10} (e : off = rowOff j i) (h h') :
    (Memref.whole main_v0).slice (Rect.unit (s := S100000x128) off S2000x128.size h) h' = oblk j i :=
  Memref.slice_unit_congr _ e _ _ _ (fun _ => rfl)

/-- The prologue: slots and semaphores 0 and 1, the row blocks of step 1. -/
@[sl_canon] theorem pro_names  :
    (∀ (A : DmaSems sig S3) (h), (A.slice (Rect.unit (s := S3) k0_off1 S1.size h)).squeeze S_ squeezes_S1_S_ = rsem A 0)
    ∧ (∀ (B : Memref sig .tc .vmem S3x2000x129 .f32) (h h'), (B.slice (Rect.unit (s := S3x2000x129) k0_off2 S1x2000x129.size h) h').squeeze S2000x129 squeezes_S1x2000x129_S2000x129 = rslot B 0)
    ∧ (∀ (A : DmaSems sig S3) (h), (A.slice (Rect.unit (s := S3) k0_off3 S1.size h)).squeeze S_ squeezes_S1_S_ = rsem A 1)
    ∧ (∀ (B : Memref sig .tc .vmem S3x2000x129 .f32) (h h'), (B.slice (Rect.unit (s := S3x2000x129) k0_off4 S1x2000x129.size h) h').squeeze S2000x129 squeezes_S1x2000x129_S2000x129 = rslot B 1)
    ∧ (∀ (h h'), (Memref.whole main_arg0).slice (Rect.unit (s := S100000x129) k0_off5 S2000x129.size h) h' = xblk 0 1)
    ∧ (∀ (A : DmaSems sig S3) (h), (A.slice (Rect.unit (s := S3) k0_off6 S1.size h)).squeeze S_ squeezes_S1_S_ = rsem A 1)
    ∧ (∀ (B : Memref sig .tc .vmem S3x2000x129 .f32) (h h'), (B.slice (Rect.unit (s := S3x2000x129) k0_off7 S1x2000x129.size h) h').squeeze S2000x129 squeezes_S1x2000x129_S2000x129 = rslot B 1)
    ∧ (∀ (h h'), (Memref.whole main_arg0).slice (Rect.unit (s := S100000x129) k0_off8 S2000x129.size h) h' = xblk 1 1)
    ∧ (∀ (A : DmaSems sig S3) (h), (A.slice (Rect.unit (s := S3) k0_off9 S1.size h)).squeeze S_ squeezes_S1_S_ = rsem A 1)
    ∧ (∀ (B : Memref sig .tc .vmem S3x2000x129 .f32) (h h'), (B.slice (Rect.unit (s := S3x2000x129) k0_off10 S1x2000x129.size h) h').squeeze S2000x129 squeezes_S1x2000x129_S2000x129 = rslot B 1)
    ∧ (∀ (h h'), (Memref.whole main_arg0).slice (Rect.unit (s := S100000x129) k0_off11 S2000x129.size h) h' = xblk 2 1)
    ∧ (∀ (A : DmaSems sig S3) (h), (A.slice (Rect.unit (s := S3) k0_off12 S1.size h)).squeeze S_ squeezes_S1_S_ = rsem A 1)
    ∧ (∀ (B : Memref sig .tc .vmem S3x2000x129 .f32) (h h'), (B.slice (Rect.unit (s := S3x2000x129) k0_off13 S1x2000x129.size h) h').squeeze S2000x129 squeezes_S1x2000x129_S2000x129 = rslot B 1)
    ∧ (∀ (h h'), (Memref.whole main_arg0).slice (Rect.unit (s := S100000x129) k0_off14 S2000x129.size h) h' = xblk 3 1)
    ∧ (∀ (A : DmaSems sig S3) (h), (A.slice (Rect.unit (s := S3) k0_off15 S1.size h)).squeeze S_ squeezes_S1_S_ = rsem A 1)
    ∧ (∀ (B : Memref sig .tc .vmem S3x2000x129 .f32) (h h'), (B.slice (Rect.unit (s := S3x2000x129) k0_off16 S1x2000x129.size h) h').squeeze S2000x129 squeezes_S1x2000x129_S2000x129 = rslot B 1)
    ∧ (∀ (h h'), (Memref.whole main_arg0).slice (Rect.unit (s := S100000x129) k0_off17 S2000x129.size h) h' = xblk 4 1) := by
  obtain ⟨e0, e1, e2, e3, e4, e5, e6, e7, e8, e9, e10, e11, e12, e13, e14, e15, e16⟩ := pro_off
  exact ⟨fun A h => rsem_congr e0 A h, fun B h h' => rslot_congr e1 B h h', fun A h => rsem_congr e2 A h, fun B h h' => rslot_congr e3 B h h', fun h h' => xblk_congr e4 h h', fun A h => rsem_congr e5 A h, fun B h h' => rslot_congr e6 B h h', fun h h' => xblk_congr e7 h h', fun A h => rsem_congr e8 A h, fun B h h' => rslot_congr e9 B h h', fun h h' => xblk_congr e10 h h', fun A h => rsem_congr e11 A h, fun B h h' => rslot_congr e12 B h h', fun h h' => xblk_congr e13 h h', fun A h => rsem_congr e14 A h, fun B h h' => rslot_congr e15 B h h', fun h h' => xblk_congr e16 h h'⟩

/-- Trip `k` issues step `k + 2`. -/
@[sl_canon] theorem issue_names (k : Trip) (h : k.val + 2 < 10) :
    (∀ (A : DmaSems sig S3) (h), (A.slice (Rect.unit (s := S3) (k0_off18 (wI k.val)) S1.size h)).squeeze S_ squeezes_S1_S_ = rsem A (Ring.sl 3 (k.val + 2)))
    ∧ (∀ (B : Memref sig .tc .vmem S3x2000x129 .f32) (h h'), (B.slice (Rect.unit (s := S3x2000x129) (k0_off19 (wI k.val)) S1x2000x129.size h) h').squeeze S2000x129 squeezes_S1x2000x129_S2000x129 = rslot B (Ring.sl 3 (k.val + 2)))
    ∧ (∀ (h h'), (Memref.whole main_arg0).slice (Rect.unit (s := S100000x129) (k0_off20 (wG k.val)) S2000x129.size h) h' = xblk 0 (Ring.bk 10 (k.val + 2)))
    ∧ (∀ (A : DmaSems sig S3) (h), (A.slice (Rect.unit (s := S3) (k0_off21 (wI k.val)) S1.size h)).squeeze S_ squeezes_S1_S_ = rsem A (Ring.sl 3 (k.val + 2)))
    ∧ (∀ (B : Memref sig .tc .vmem S3x2000x129 .f32) (h h'), (B.slice (Rect.unit (s := S3x2000x129) (k0_off22 (wI k.val)) S1x2000x129.size h) h').squeeze S2000x129 squeezes_S1x2000x129_S2000x129 = rslot B (Ring.sl 3 (k.val + 2)))
    ∧ (∀ (h h'), (Memref.whole main_arg0).slice (Rect.unit (s := S100000x129) (k0_off23 (wG k.val)) S2000x129.size h) h' = xblk 1 (Ring.bk 10 (k.val + 2)))
    ∧ (∀ (A : DmaSems sig S3) (h), (A.slice (Rect.unit (s := S3) (k0_off24 (wI k.val)) S1.size h)).squeeze S_ squeezes_S1_S_ = rsem A (Ring.sl 3 (k.val + 2)))
    ∧ (∀ (B : Memref sig .tc .vmem S3x2000x129 .f32) (h h'), (B.slice (Rect.unit (s := S3x2000x129) (k0_off25 (wI k.val)) S1x2000x129.size h) h').squeeze S2000x129 squeezes_S1x2000x129_S2000x129 = rslot B (Ring.sl 3 (k.val + 2)))
    ∧ (∀ (h h'), (Memref.whole main_arg0).slice (Rect.unit (s := S100000x129) (k0_off26 (wG k.val)) S2000x129.size h) h' = xblk 2 (Ring.bk 10 (k.val + 2)))
    ∧ (∀ (A : DmaSems sig S3) (h), (A.slice (Rect.unit (s := S3) (k0_off27 (wI k.val)) S1.size h)).squeeze S_ squeezes_S1_S_ = rsem A (Ring.sl 3 (k.val + 2)))
    ∧ (∀ (B : Memref sig .tc .vmem S3x2000x129 .f32) (h h'), (B.slice (Rect.unit (s := S3x2000x129) (k0_off28 (wI k.val)) S1x2000x129.size h) h').squeeze S2000x129 squeezes_S1x2000x129_S2000x129 = rslot B (Ring.sl 3 (k.val + 2)))
    ∧ (∀ (h h'), (Memref.whole main_arg0).slice (Rect.unit (s := S100000x129) (k0_off29 (wG k.val)) S2000x129.size h) h' = xblk 3 (Ring.bk 10 (k.val + 2)))
    ∧ (∀ (A : DmaSems sig S3) (h), (A.slice (Rect.unit (s := S3) (k0_off30 (wI k.val)) S1.size h)).squeeze S_ squeezes_S1_S_ = rsem A (Ring.sl 3 (k.val + 2)))
    ∧ (∀ (B : Memref sig .tc .vmem S3x2000x129 .f32) (h h'), (B.slice (Rect.unit (s := S3x2000x129) (k0_off31 (wI k.val)) S1x2000x129.size h) h').squeeze S2000x129 squeezes_S1x2000x129_S2000x129 = rslot B (Ring.sl 3 (k.val + 2)))
    ∧ (∀ (h h'), (Memref.whole main_arg0).slice (Rect.unit (s := S100000x129) (k0_off32 (wG k.val)) S2000x129.size h) h' = xblk 4 (Ring.bk 10 (k.val + 2))) := by
  obtain ⟨e0, e1, e2, e3, e4, e5, e6, e7, e8, e9, e10, e11, e12, e13, e14⟩ := issue_off k h
  exact ⟨fun A h => rsem_congr e0 A h, fun B h h' => rslot_congr e1 B h h', fun h h' => xblk_congr e2 h h', fun A h => rsem_congr e3 A h, fun B h h' => rslot_congr e4 B h h', fun h h' => xblk_congr e5 h h', fun A h => rsem_congr e6 A h, fun B h h' => rslot_congr e7 B h h', fun h h' => xblk_congr e8 h h', fun A h => rsem_congr e9 A h, fun B h h' => rslot_congr e10 B h h', fun h h' => xblk_congr e11 h h', fun A h => rsem_congr e12 A h, fun B h h' => rslot_congr e13 B h h', fun h h' => xblk_congr e14 h h'⟩

/-- Trip `k` waits for step `k`. -/
@[sl_canon] theorem wait_names (k : Trip) :
    (∀ (A : DmaSems sig S3) (h), (A.slice (Rect.unit (s := S3) (k0_off33 (wK k.val)) S1.size h)).squeeze S_ squeezes_S1_S_ = rsem A (Ring.sl 3 k.val))
    ∧ (∀ (B : Memref sig .tc .vmem S3x2000x129 .f32) (h h'), (B.slice (Rect.unit (s := S3x2000x129) (k0_off34 (wK k.val)) S1x2000x129.size h) h').squeeze S2000x129 squeezes_S1x2000x129_S2000x129 = rslot B (Ring.sl 3 k.val))
    ∧ (∀ (h h'), (Memref.whole main_arg0).slice (Rect.unit (s := S100000x129) (k0_off35 (wG k.val)) S2000x129.size h) h' = xblk 0 (Ring.bk 10 k.val))
    ∧ (∀ (A : DmaSems sig S3) (h), (A.slice (Rect.unit (s := S3) (k0_off36 (wK k.val)) S1.size h)).squeeze S_ squeezes_S1_S_ = rsem A (Ring.sl 3 k.val))
    ∧ (∀ (B : Memref sig .tc .vmem S3x2000x129 .f32) (h h'), (B.slice (Rect.unit (s := S3x2000x129) (k0_off37 (wK k.val)) S1x2000x129.size h) h').squeeze S2000x129 squeezes_S1x2000x129_S2000x129 = rslot B (Ring.sl 3 k.val))
    ∧ (∀ (h h'), (Memref.whole main_arg0).slice (Rect.unit (s := S100000x129) (k0_off38 (wG k.val)) S2000x129.size h) h' = xblk 1 (Ring.bk 10 k.val))
    ∧ (∀ (A : DmaSems sig S3) (h), (A.slice (Rect.unit (s := S3) (k0_off39 (wK k.val)) S1.size h)).squeeze S_ squeezes_S1_S_ = rsem A (Ring.sl 3 k.val))
    ∧ (∀ (B : Memref sig .tc .vmem S3x2000x129 .f32) (h h'), (B.slice (Rect.unit (s := S3x2000x129) (k0_off40 (wK k.val)) S1x2000x129.size h) h').squeeze S2000x129 squeezes_S1x2000x129_S2000x129 = rslot B (Ring.sl 3 k.val))
    ∧ (∀ (h h'), (Memref.whole main_arg0).slice (Rect.unit (s := S100000x129) (k0_off41 (wG k.val)) S2000x129.size h) h' = xblk 2 (Ring.bk 10 k.val))
    ∧ (∀ (A : DmaSems sig S3) (h), (A.slice (Rect.unit (s := S3) (k0_off42 (wK k.val)) S1.size h)).squeeze S_ squeezes_S1_S_ = rsem A (Ring.sl 3 k.val))
    ∧ (∀ (B : Memref sig .tc .vmem S3x2000x129 .f32) (h h'), (B.slice (Rect.unit (s := S3x2000x129) (k0_off43 (wK k.val)) S1x2000x129.size h) h').squeeze S2000x129 squeezes_S1x2000x129_S2000x129 = rslot B (Ring.sl 3 k.val))
    ∧ (∀ (h h'), (Memref.whole main_arg0).slice (Rect.unit (s := S100000x129) (k0_off44 (wG k.val)) S2000x129.size h) h' = xblk 3 (Ring.bk 10 k.val))
    ∧ (∀ (A : DmaSems sig S3) (h), (A.slice (Rect.unit (s := S3) (k0_off45 (wK k.val)) S1.size h)).squeeze S_ squeezes_S1_S_ = rsem A (Ring.sl 3 k.val))
    ∧ (∀ (B : Memref sig .tc .vmem S3x2000x129 .f32) (h h'), (B.slice (Rect.unit (s := S3x2000x129) (k0_off46 (wK k.val)) S1x2000x129.size h) h').squeeze S2000x129 squeezes_S1x2000x129_S2000x129 = rslot B (Ring.sl 3 k.val))
    ∧ (∀ (h h'), (Memref.whole main_arg0).slice (Rect.unit (s := S100000x129) (k0_off47 (wG k.val)) S2000x129.size h) h' = xblk 4 (Ring.bk 10 k.val)) := by
  obtain ⟨e0, e1, e2, e3, e4, e5, e6, e7, e8, e9, e10, e11, e12, e13, e14⟩ := wait_off k
  exact ⟨fun A h => rsem_congr e0 A h, fun B h h' => rslot_congr e1 B h h', fun h h' => xblk_congr e2 h h', fun A h => rsem_congr e3 A h, fun B h h' => rslot_congr e4 B h h', fun h h' => xblk_congr e5 h h', fun A h => rsem_congr e6 A h, fun B h h' => rslot_congr e7 B h h', fun h h' => xblk_congr e8 h h', fun A h => rsem_congr e9 A h, fun B h h' => rslot_congr e10 B h h', fun h h' => xblk_congr e11 h h', fun A h => rsem_congr e12 A h, fun B h h' => rslot_congr e13 B h h', fun h h' => xblk_congr e14 h h'⟩

/-- Trip `k` issues its result. -/
@[sl_canon] theorem out_names (k : Trip) :
    (∀ (A : DmaSems sig S2) (h), (A.slice (Rect.unit (s := S2) (k0_off58 (wK k.val)) S1.size h)).squeeze S_ squeezes_S1_S_ = wsem A (Ring.sl 2 k.val))
    ∧ (∀ (h h'), (Memref.whole main_v0).slice (Rect.unit (s := S100000x128) (k0_off59 (wG k.val)) S2000x128.size h) h' = oblk 0 (Ring.bk 10 k.val))
    ∧ (∀ (B : Memref sig .tc .vmem S2x2000x128 .f32) (h h'), (B.slice (Rect.unit (s := S2x2000x128) (k0_off60 (wK k.val)) S1x2000x128.size h) h').squeeze S2000x128 squeezes_S1x2000x128_S2000x128 = wslot B (Ring.sl 2 k.val))
    ∧ (∀ (A : DmaSems sig S2) (h), (A.slice (Rect.unit (s := S2) (k0_off61 (wK k.val)) S1.size h)).squeeze S_ squeezes_S1_S_ = wsem A (Ring.sl 2 k.val))
    ∧ (∀ (h h'), (Memref.whole main_v0).slice (Rect.unit (s := S100000x128) (k0_off62 (wG k.val)) S2000x128.size h) h' = oblk 1 (Ring.bk 10 k.val))
    ∧ (∀ (B : Memref sig .tc .vmem S2x2000x128 .f32) (h h'), (B.slice (Rect.unit (s := S2x2000x128) (k0_off63 (wK k.val)) S1x2000x128.size h) h').squeeze S2000x128 squeezes_S1x2000x128_S2000x128 = wslot B (Ring.sl 2 k.val))
    ∧ (∀ (A : DmaSems sig S2) (h), (A.slice (Rect.unit (s := S2) (k0_off64 (wK k.val)) S1.size h)).squeeze S_ squeezes_S1_S_ = wsem A (Ring.sl 2 k.val))
    ∧ (∀ (h h'), (Memref.whole main_v0).slice (Rect.unit (s := S100000x128) (k0_off65 (wG k.val)) S2000x128.size h) h' = oblk 2 (Ring.bk 10 k.val))
    ∧ (∀ (B : Memref sig .tc .vmem S2x2000x128 .f32) (h h'), (B.slice (Rect.unit (s := S2x2000x128) (k0_off66 (wK k.val)) S1x2000x128.size h) h').squeeze S2000x128 squeezes_S1x2000x128_S2000x128 = wslot B (Ring.sl 2 k.val))
    ∧ (∀ (A : DmaSems sig S2) (h), (A.slice (Rect.unit (s := S2) (k0_off67 (wK k.val)) S1.size h)).squeeze S_ squeezes_S1_S_ = wsem A (Ring.sl 2 k.val))
    ∧ (∀ (h h'), (Memref.whole main_v0).slice (Rect.unit (s := S100000x128) (k0_off68 (wG k.val)) S2000x128.size h) h' = oblk 3 (Ring.bk 10 k.val))
    ∧ (∀ (B : Memref sig .tc .vmem S2x2000x128 .f32) (h h'), (B.slice (Rect.unit (s := S2x2000x128) (k0_off69 (wK k.val)) S1x2000x128.size h) h').squeeze S2000x128 squeezes_S1x2000x128_S2000x128 = wslot B (Ring.sl 2 k.val))
    ∧ (∀ (A : DmaSems sig S2) (h), (A.slice (Rect.unit (s := S2) (k0_off70 (wK k.val)) S1.size h)).squeeze S_ squeezes_S1_S_ = wsem A (Ring.sl 2 k.val))
    ∧ (∀ (h h'), (Memref.whole main_v0).slice (Rect.unit (s := S100000x128) (k0_off71 (wG k.val)) S2000x128.size h) h' = oblk 4 (Ring.bk 10 k.val))
    ∧ (∀ (B : Memref sig .tc .vmem S2x2000x128 .f32) (h h'), (B.slice (Rect.unit (s := S2x2000x128) (k0_off72 (wK k.val)) S1x2000x128.size h) h').squeeze S2000x128 squeezes_S1x2000x128_S2000x128 = wslot B (Ring.sl 2 k.val)) := by
  obtain ⟨e0, e1, e2, e3, e4, e5, e6, e7, e8, e9, e10, e11, e12, e13, e14⟩ := out_off k
  exact ⟨fun A h => wsem_congr e0 A h, fun h h' => oblk_congr e1 h h', fun B h h' => wslot_congr e2 B h h', fun A h => wsem_congr e3 A h, fun h h' => oblk_congr e4 h h', fun B h h' => wslot_congr e5 B h h', fun A h => wsem_congr e6 A h, fun h h' => oblk_congr e7 h h', fun B h h' => wslot_congr e8 B h h', fun A h => wsem_congr e9 A h, fun h h' => oblk_congr e10 h h', fun B h h' => wslot_congr e11 B h h', fun A h => wsem_congr e12 A h, fun h h' => oblk_congr e13 h h', fun B h h' => wslot_congr e14 B h h'⟩

/-- Trip `k` waits for the result of step `k - 1`. -/
@[sl_canon] theorem behind_names (k : Trip) (h : 1 ≤ k.val) :
    (∀ (A : DmaSems sig S2) (h), (A.slice (Rect.unit (s := S2) (k0_off73 (wO k.val)) S1.size h)).squeeze S_ squeezes_S1_S_ = wsem A (Ring.sl 2 (k.val + 1)))
    ∧ (∀ (h h'), (Memref.whole main_v0).slice (Rect.unit (s := S100000x128) (k0_off74 (wG k.val)) S2000x128.size h) h' = oblk 0 (Ring.bk 10 (k.val - 1)))
    ∧ (∀ (B : Memref sig .tc .vmem S2x2000x128 .f32) (h h'), (B.slice (Rect.unit (s := S2x2000x128) (k0_off75 (wO k.val)) S1x2000x128.size h) h').squeeze S2000x128 squeezes_S1x2000x128_S2000x128 = wslot B (Ring.sl 2 (k.val + 1)))
    ∧ (∀ (A : DmaSems sig S2) (h), (A.slice (Rect.unit (s := S2) (k0_off76 (wO k.val)) S1.size h)).squeeze S_ squeezes_S1_S_ = wsem A (Ring.sl 2 (k.val + 1)))
    ∧ (∀ (h h'), (Memref.whole main_v0).slice (Rect.unit (s := S100000x128) (k0_off77 (wG k.val)) S2000x128.size h) h' = oblk 1 (Ring.bk 10 (k.val - 1)))
    ∧ (∀ (B : Memref sig .tc .vmem S2x2000x128 .f32) (h h'), (B.slice (Rect.unit (s := S2x2000x128) (k0_off78 (wO k.val)) S1x2000x128.size h) h').squeeze S2000x128 squeezes_S1x2000x128_S2000x128 = wslot B (Ring.sl 2 (k.val + 1)))
    ∧ (∀ (A : DmaSems sig S2) (h), (A.slice (Rect.unit (s := S2) (k0_off79 (wO k.val)) S1.size h)).squeeze S_ squeezes_S1_S_ = wsem A (Ring.sl 2 (k.val + 1)))
    ∧ (∀ (h h'), (Memref.whole main_v0).slice (Rect.unit (s := S100000x128) (k0_off80 (wG k.val)) S2000x128.size h) h' = oblk 2 (Ring.bk 10 (k.val - 1)))
    ∧ (∀ (B : Memref sig .tc .vmem S2x2000x128 .f32) (h h'), (B.slice (Rect.unit (s := S2x2000x128) (k0_off81 (wO k.val)) S1x2000x128.size h) h').squeeze S2000x128 squeezes_S1x2000x128_S2000x128 = wslot B (Ring.sl 2 (k.val + 1)))
    ∧ (∀ (A : DmaSems sig S2) (h), (A.slice (Rect.unit (s := S2) (k0_off82 (wO k.val)) S1.size h)).squeeze S_ squeezes_S1_S_ = wsem A (Ring.sl 2 (k.val + 1)))
    ∧ (∀ (h h'), (Memref.whole main_v0).slice (Rect.unit (s := S100000x128) (k0_off83 (wG k.val)) S2000x128.size h) h' = oblk 3 (Ring.bk 10 (k.val - 1)))
    ∧ (∀ (B : Memref sig .tc .vmem S2x2000x128 .f32) (h h'), (B.slice (Rect.unit (s := S2x2000x128) (k0_off84 (wO k.val)) S1x2000x128.size h) h').squeeze S2000x128 squeezes_S1x2000x128_S2000x128 = wslot B (Ring.sl 2 (k.val + 1)))
    ∧ (∀ (A : DmaSems sig S2) (h), (A.slice (Rect.unit (s := S2) (k0_off85 (wO k.val)) S1.size h)).squeeze S_ squeezes_S1_S_ = wsem A (Ring.sl 2 (k.val + 1)))
    ∧ (∀ (h h'), (Memref.whole main_v0).slice (Rect.unit (s := S100000x128) (k0_off86 (wG k.val)) S2000x128.size h) h' = oblk 4 (Ring.bk 10 (k.val - 1)))
    ∧ (∀ (B : Memref sig .tc .vmem S2x2000x128 .f32) (h h'), (B.slice (Rect.unit (s := S2x2000x128) (k0_off87 (wO k.val)) S1x2000x128.size h) h').squeeze S2000x128 squeezes_S1x2000x128_S2000x128 = wslot B (Ring.sl 2 (k.val + 1))) := by
  obtain ⟨e0, e1, e2, e3, e4, e5, e6, e7, e8, e9, e10, e11, e12, e13, e14⟩ := behind_off k h
  exact ⟨fun A h => wsem_congr e0 A h, fun h h' => oblk_congr e1 h h', fun B h h' => wslot_congr e2 B h h', fun A h => wsem_congr e3 A h, fun h h' => oblk_congr e4 h h', fun B h h' => wslot_congr e5 B h h', fun A h => wsem_congr e6 A h, fun h h' => oblk_congr e7 h h', fun B h h' => wslot_congr e8 B h h', fun A h => wsem_congr e9 A h, fun h h' => oblk_congr e10 h h', fun B h h' => wslot_congr e11 B h h', fun A h => wsem_congr e12 A h, fun h h' => oblk_congr e13 h h', fun B h h' => wslot_congr e14 B h h'⟩

/-- The epilogue waits for the result of step 9. -/
@[sl_canon] theorem epi_names  :
    (∀ (A : DmaSems sig S2) (h), (A.slice (Rect.unit (s := S2) (k0_off88 (wO 10)) S1.size h)).squeeze S_ squeezes_S1_S_ = wsem A (Ring.sl 2 (10 + 1)))
    ∧ (∀ (h h'), (Memref.whole main_v0).slice (Rect.unit (s := S100000x128) (k0_off89 (wG 10)) S2000x128.size h) h' = oblk 0 (Ring.bk 10 (10 - 1)))
    ∧ (∀ (B : Memref sig .tc .vmem S2x2000x128 .f32) (h h'), (B.slice (Rect.unit (s := S2x2000x128) (k0_off90 (wO 10)) S1x2000x128.size h) h').squeeze S2000x128 squeezes_S1x2000x128_S2000x128 = wslot B (Ring.sl 2 (10 + 1)))
    ∧ (∀ (A : DmaSems sig S2) (h), (A.slice (Rect.unit (s := S2) (k0_off91 (wO 10)) S1.size h)).squeeze S_ squeezes_S1_S_ = wsem A (Ring.sl 2 (10 + 1)))
    ∧ (∀ (h h'), (Memref.whole main_v0).slice (Rect.unit (s := S100000x128) (k0_off92 (wG 10)) S2000x128.size h) h' = oblk 1 (Ring.bk 10 (10 - 1)))
    ∧ (∀ (B : Memref sig .tc .vmem S2x2000x128 .f32) (h h'), (B.slice (Rect.unit (s := S2x2000x128) (k0_off93 (wO 10)) S1x2000x128.size h) h').squeeze S2000x128 squeezes_S1x2000x128_S2000x128 = wslot B (Ring.sl 2 (10 + 1)))
    ∧ (∀ (A : DmaSems sig S2) (h), (A.slice (Rect.unit (s := S2) (k0_off94 (wO 10)) S1.size h)).squeeze S_ squeezes_S1_S_ = wsem A (Ring.sl 2 (10 + 1)))
    ∧ (∀ (h h'), (Memref.whole main_v0).slice (Rect.unit (s := S100000x128) (k0_off95 (wG 10)) S2000x128.size h) h' = oblk 2 (Ring.bk 10 (10 - 1)))
    ∧ (∀ (B : Memref sig .tc .vmem S2x2000x128 .f32) (h h'), (B.slice (Rect.unit (s := S2x2000x128) (k0_off96 (wO 10)) S1x2000x128.size h) h').squeeze S2000x128 squeezes_S1x2000x128_S2000x128 = wslot B (Ring.sl 2 (10 + 1)))
    ∧ (∀ (A : DmaSems sig S2) (h), (A.slice (Rect.unit (s := S2) (k0_off97 (wO 10)) S1.size h)).squeeze S_ squeezes_S1_S_ = wsem A (Ring.sl 2 (10 + 1)))
    ∧ (∀ (h h'), (Memref.whole main_v0).slice (Rect.unit (s := S100000x128) (k0_off98 (wG 10)) S2000x128.size h) h' = oblk 3 (Ring.bk 10 (10 - 1)))
    ∧ (∀ (B : Memref sig .tc .vmem S2x2000x128 .f32) (h h'), (B.slice (Rect.unit (s := S2x2000x128) (k0_off99 (wO 10)) S1x2000x128.size h) h').squeeze S2000x128 squeezes_S1x2000x128_S2000x128 = wslot B (Ring.sl 2 (10 + 1)))
    ∧ (∀ (A : DmaSems sig S2) (h), (A.slice (Rect.unit (s := S2) (k0_off100 (wO 10)) S1.size h)).squeeze S_ squeezes_S1_S_ = wsem A (Ring.sl 2 (10 + 1)))
    ∧ (∀ (h h'), (Memref.whole main_v0).slice (Rect.unit (s := S100000x128) (k0_off101 (wG 10)) S2000x128.size h) h' = oblk 4 (Ring.bk 10 (10 - 1)))
    ∧ (∀ (B : Memref sig .tc .vmem S2x2000x128 .f32) (h h'), (B.slice (Rect.unit (s := S2x2000x128) (k0_off102 (wO 10)) S1x2000x128.size h) h').squeeze S2000x128 squeezes_S1x2000x128_S2000x128 = wslot B (Ring.sl 2 (10 + 1))) := by
  obtain ⟨e0, e1, e2, e3, e4, e5, e6, e7, e8, e9, e10, e11, e12, e13, e14⟩ := epi_off
  exact ⟨fun A h => wsem_congr e0 A h, fun h h' => oblk_congr e1 h h', fun B h h' => wslot_congr e2 B h h', fun A h => wsem_congr e3 A h, fun h h' => oblk_congr e4 h h', fun B h h' => wslot_congr e5 B h h', fun A h => wsem_congr e6 A h, fun h h' => oblk_congr e7 h h', fun B h h' => wslot_congr e8 B h h', fun A h => wsem_congr e9 A h, fun h h' => oblk_congr e10 h h', fun B h h' => wslot_congr e11 B h h', fun A h => wsem_congr e12 A h, fun h h' => oblk_congr e13 h h', fun B h h' => wslot_congr e14 B h h'⟩

/-- The prologue's blocks of step 0, at literal rows. -/
@[sl_canon] theorem xblk_0 (h h') : (Memref.whole main_arg0).slice (Rect.unit (s := S100000x129) ![0, 0] S2000x129.size h) h' = xblk 0 0 := Memref.slice_unit_congr _ (by decide) _ _ _ (fun _ => rfl)
@[sl_canon] theorem xblk_1 (h h') : (Memref.whole main_arg0).slice (Rect.unit (s := S100000x129) ![2000, 0] S2000x129.size h) h' = xblk 1 0 := Memref.slice_unit_congr _ (by decide) _ _ _ (fun _ => rfl)
@[sl_canon] theorem xblk_2 (h h') : (Memref.whole main_arg0).slice (Rect.unit (s := S100000x129) ![4000, 0] S2000x129.size h) h' = xblk 2 0 := Memref.slice_unit_congr _ (by decide) _ _ _ (fun _ => rfl)
@[sl_canon] theorem xblk_3 (h h') : (Memref.whole main_arg0).slice (Rect.unit (s := S100000x129) ![6000, 0] S2000x129.size h) h' = xblk 3 0 := Memref.slice_unit_congr _ (by decide) _ _ _ (fun _ => rfl)
@[sl_canon] theorem xblk_4 (h h') : (Memref.whole main_arg0).slice (Rect.unit (s := S100000x129) ![8000, 0] S2000x129.size h) h' = xblk 4 0 := Memref.slice_unit_congr _ (by decide) _ _ _ (fun _ => rfl)

end Cert.Proof.KernelIdeal

end
-- ==== Proof.Pieces.lean ====
module

public import proofs.«01_k».proof.Proof.Names
public import Idealize.ShloMosaic.Lib.Ring.WriteBehind
public import Idealize.ShloMosaic.Lib.Ring.Trips

/-! # What the pipeline's loop holds

Each input window is a ring of three slots filled two steps ahead: at a trip two steps are in flight and the other
row blocks of `x` are at home. Each result window is a ring of two slots drained one step behind. -/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra: the launch's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! The buffers and semaphores of the five input windows and of the five result windows. -/
abbrev bx0 : Memref sig .tc .vmem S3x2000x129 .f32 := Memref.whole cc0_scoped0
abbrev sx0 : DmaSems sig S3 := cc0_scoped1
abbrev bx1 : Memref sig .tc .vmem S3x2000x129 .f32 := Memref.whole cc0_scoped2
abbrev sx1 : DmaSems sig S3 := cc0_scoped3
abbrev bx2 : Memref sig .tc .vmem S3x2000x129 .f32 := Memref.whole cc0_scoped4
abbrev sx2 : DmaSems sig S3 := cc0_scoped5
abbrev bx3 : Memref sig .tc .vmem S3x2000x129 .f32 := Memref.whole cc0_scoped6
abbrev sx3 : DmaSems sig S3 := cc0_scoped7
abbrev bx4 : Memref sig .tc .vmem S3x2000x129 .f32 := Memref.whole cc0_scoped8
abbrev sx4 : DmaSems sig S3 := cc0_scoped9
abbrev bo0 : Memref sig .tc .vmem S2x2000x128 .f32 := Memref.whole cc0_scoped10
abbrev so0 : DmaSems sig S2 := cc0_scoped11
abbrev bo1 : Memref sig .tc .vmem S2x2000x128 .f32 := Memref.whole cc0_scoped12
abbrev so1 : DmaSems sig S2 := cc0_scoped13
abbrev bo2 : Memref sig .tc .vmem S2x2000x128 .f32 := Memref.whole cc0_scoped14
abbrev so2 : DmaSems sig S2 := cc0_scoped15
abbrev bo3 : Memref sig .tc .vmem S2x2000x128 .f32 := Memref.whole cc0_scoped16
abbrev so3 : DmaSems sig S2 := cc0_scoped17
abbrev bo4 : Memref sig .tc .vmem S2x2000x128 .f32 := Memref.whole cc0_scoped18
abbrev so4 : DmaSems sig S2 := cc0_scoped19

section Pieces
variable (c : Dev nD) (XA : Buf (Elt F) ((Memref.whole main_arg0).view.loc (c : Thread nD τ)))
  (RB : Fin 5 → Fin 10 → S2000x128.Idx → Elt F .f32)

variable (B : Memref sig .tc .vmem S3x2000x129 .f32) (A : DmaSems sig S3)
  (C : Memref sig .tc .vmem S2x2000x128 .f32) (D : DmaSems sig S2) (j : Fin 5)

/-- Slot `s`'s semaphore, at rest. -/
abbrev cellP (s : Fin 3) : sProp 𝕄 := semVal ((c : Thread nD τ), SemLoc.dma (rsem A s).sem) 0
/-- Slot `s` of an input window, held at `f`. -/
abbrev slotP (s : Fin 3) (f : Buf (Elt F) ((rslot B s).view.loc (c : Thread nD τ))) : sProp 𝕄 :=
  (rslot B s).view.loc (c : Thread nD τ) ↦[(rslot B s).view.set]{fullShare} f
/-- Row block `b` of window `j`, at home with `x`'s contents. -/
abbrev homeP (b : Fin 10) : sProp 𝕄 := (xblk j b).view.loc (c : Thread nD τ) ↦[(xblk j b).view.set]{fullShare} XA
/-- The words of row block `b` of window `j`. -/
abbrev xpay (b : Fin 10) : S2000x129.Idx → Elt F .f32 := ReadAs.same.apply ((xblk j b).view.read (Elt F) XA)
/-- What a row block's transfer leaves in slot `s` over `f`. -/
abbrev landed (s : Fin 3) (b : Fin 10) (f : Buf (Elt F) ((rslot B s).view.loc (c : Thread nD τ))) : Buf (Elt F) ((rslot B s).view.loc (c : Thread nD τ)) :=
  (rslot B s).view.writes (Elt F) f [⟨Rect.whole S2000x129, xpay c XA j b⟩]
/-- Slot `s` in flight with row block `b`, issued over `f`. -/
abbrev flightP (s : Fin 3) (b : Fin 10) (f : Buf (Elt F) ((rslot B s).view.loc (c : Thread nD τ))) : sProp 𝕄 :=
  Transfers.Flight countersEmb (c : Thread nD τ) (SemLoc.dma (rsem A s).sem) () 64000 iprop(slotP c B s (landed c XA B j s b f) ∗ homeP c XA j b)

/-- The input ring before trip `k`. -/
abbrev ringX (k : ℕ) : sProp 𝕄 := Ring.At (NB := 10) 2 (cellP (F := F) c A) (slotP c B) (homeP c XA j) (flightP c XA B A j) k

/-- A result slot's semaphore, at rest; the slot, held at `f`. -/
abbrev wcellP (s : Fin 2) : sProp 𝕄 := semVal ((c : Thread nD τ), SemLoc.dma (wsem D s).sem) 0
abbrev wslotP (s : Fin 2) (f : Buf (Elt F) ((wslot C s).view.loc (c : Thread nD τ))) : sProp 𝕄 :=
  (wslot C s).view.loc (c : Thread nD τ) ↦[(wslot C s).view.set]{fullShare} f
/-- Row block `b` of window `j` of the result, held at `f`. -/
abbrev oblkP (b : Fin 10) (f : Buf (Elt F) ((oblk j b).view.loc (c : Thread nD τ))) : sProp 𝕄 :=
  (oblk j b).view.loc (c : Thread nD τ) ↦[(oblk j b).view.set]{fullShare} f
/-- The row block holds its part of the result. -/
def Good (b : Fin 10) (f : Buf (Elt F) ((oblk j b).view.loc (c : Thread nD τ))) : Prop :=
  (oblk j b).view.read (Elt F) f = RB j b
/-- A slot free; a row block not yet written; a row block written; a slot in flight to its row block. -/
abbrev wfree (s : Fin 2) : sProp 𝕄 := iprop(wcellP (F := F) c D s ∗ ∃ f, wslotP (F := F) c C s f)
abbrev aheadP (b : Fin 10) : sProp 𝕄 := iprop(∃ f, oblkP (F := F) c j b f)
abbrev behindP (b : Fin 10) : sProp 𝕄 := iprop(∃ f, oblkP (F := F) c j b f ∗ ⌜Good c RB j b f⌝)
abbrev wflight (s : Fin 2) (b : Fin 10) : sProp 𝕄 :=
  iprop(∃ f h, Transfers.Flight countersEmb (c : Thread nD τ) (SemLoc.dma (wsem D s).sem) () 32000 iprop(oblkP (F := F) c j b f ∗ wslotP (F := F) c C s h)
    ∗ ⌜Good c RB j b f⌝)

/-- The result ring before trip `k`. -/
abbrev ringO (k : ℕ) : sProp 𝕄 := Ring.AtB (NB := 10) 1 (wfree (F := F) c C D) (wflight c RB C D j) (aheadP (F := F) c j) (behindP c RB j) k

end Pieces

end Cert.Proof.KernelIdeal

end
-- ==== Proof.Block.lean ====
module

public import proofs.«01_k».proof.Proof.Pieces
public import proofs.«01_k».proof.Proof.Gen.KernelIdeal.Loops
public import Idealize.ShloMosaic.Lib.Pipeline.Value

/-! # What one step computes

The five result windows of a step are one function of the step's rows of `x` and of the weights; the stored slot,
read back, is that function of the rows the transfer landed. -/

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-- Whether each row's type column is zero. -/
def isVar (x : FVec F S2000x129 .f32) : IVec S2000x1 1 :=
  cmpf .oeq (extractStridedSlice S2000x1 ![0, 0] x slices_S2000x129_o0_0_S2000x1) (broadcast S2000x1 (Scalar.ofBits (F := F) .f32 0x00000000#32))

/-- The hidden layer before its activation, both types' halves side by side. -/
def preact (x : FVec F S2000x129 .f32) (w1 : Vec F S129x256 .f32) (b1 : Vec F S1x256 .f32) : FVec F S2000x256 .f32 :=
  addf (matmul dot_S2000x129_S129x256_S2000x256_1_0_0_1_n_n none x (shapeCast S129x256 w1 shapeCasts_S129x256_S129x256)
      (constant (F := F) S2000x256 .f32 0x00000000#32))
    (broadcastTo S2000x256 (shapeCast S1x256 b1 shapeCasts_S1x256_S1x256) broadcasts_S1x256_S2000x256)

/-- The activation: a value not below zero is kept, a value below is scaled. -/
def leakyF (h : FVec F S2000x256 .f32) : FVec F S2000x256 .f32 :=
  select (cmpf .oge h (broadcast S2000x256 (Scalar.ofBits (F := F) .f32 0x00000000#32))) h
    (mulf (broadcast S2000x256 (Scalar.ofBits (F := F) .f32 0x3C23D70A#32)) h)

/-- Which hidden entries belong to the row's type: the first half for one type, the second for the other. -/
def keepMask (t : IVec S2000x1 1) : IVec S2000x256 1 :=
  xori (xori (cmpi .slt (iota .tc S2000x256 32 [1] iota_S2000x256_d1_w32) (broadcast S2000x256 128#32))
      (broadcastTo S2000x256 (broadcastTo S2000x256 t broadcasts_S2000x1_S2000x256) broadcasts_S2000x256_S2000x256))
    (constantI S2000x256 1 1#1)

/-- The second layer's bias for the row's type. -/
def biasF (t : IVec S2000x1 1) (bv bc : Vec F S1x128 .f32) : FVec F S2000x128 .f32 :=
  select (broadcastTo S2000x128 (shapeCast S2000x1 t shapeCasts_S2000x1_S2000x1) broadcasts_S2000x1_S2000x128)
    (broadcastTo S2000x128 (shapeCast S1x128 (shapeCast S1x128 bv shapeCasts_S1x128_S1x128) shapeCasts_S1x128_S1x128) broadcasts_S1x128_S2000x128)
    (broadcastTo S2000x128 (shapeCast S1x128 (shapeCast S1x128 bc shapeCasts_S1x128_S1x128) shapeCasts_S1x128_S1x128) broadcasts_S1x128_S2000x128)

/-- The rows of the result from the rows of `x` and the weights. -/
def blockF (x : FVec F S2000x129 .f32) (w1 : Vec F S129x256 .f32) (b1 : Vec F S1x256 .f32) (w2 : Vec F S256x128 .f32)
    (bv bc : Vec F S1x128 .f32) : FVec F S2000x128 .f32 :=
  addf (matmul dot_S2000x256_S256x128_S2000x128_1_0_0_1_n_n none
      (select (keepMask (isVar x)) (leakyF (preact x w1 b1)) (broadcast S2000x256 (Scalar.ofBits (F := F) .f32 0x00000000#32)))
      (shapeCast S256x128 w2 shapeCasts_S256x128_S256x128) (constant (F := F) S2000x128 .f32 0x00000000#32))
    (biasF (isVar x) bv bc)

section Values
variable (c : Dev nD) (XA : Buf (Elt F) ((Memref.whole main_arg0).view.loc (c : Thread nD τ)))
  (RB : Fin 5 → Fin 10 → S2000x128.Idx → Elt F .f32)

/-- A load of a landed slot through its whole buffer, cast to rows, is the row block that landed. -/
theorem landed_load (B : Memref sig .tc .vmem S3x2000x129 .f32) (j : Fin 5) (s : Fin 3) (b : Fin 10)
    (f : Buf (Elt F) ((rslot B s).view.loc (c : Thread nD τ))) {off : Fin 3 → Nat} (e : off = slot3Off s) (h) :
    shapeCast S2000x129 (View.readAt (Elt F) B.view (Rect.unit (s := S3x2000x129) off S1x2000x129.size h).toLoadRect (landed c XA B j s b f))
      shapeCasts_S1x2000x129_S2000x129 = xpay c XA j b := by
  subst e
  exact (Memref.read_squeeze_slice B _ (fun _ => rfl) squeezes_S1x2000x129_S2000x129 shapeCasts_S1x2000x129_S2000x129 _).symm.trans
    (View.read_writes_whole (rslot B s).view f _)

/-- A slot stored through its whole buffer, read back as rows, is the rows stored. -/
theorem stored_read (C : Memref sig .tc .vmem S2x2000x128 .f32) (s : Fin 2) (w : Buf (Elt F) ((wslot C s).view.loc (c : Thread nD τ)))
    (v : FVec F S2000x128 .f32) {off : Fin 3 → Nat} (e : off = slot2Off s) (h) :
    (wslot C s).view.read (Elt F) (View.write (Elt F) (C.access (Rect.unit (s := S2x2000x128) off S1x2000x128.size h)) w
      (shapeCast S1x2000x128 v shapeCasts_S2000x128_S1x2000x128) Finset.univ) = v := by
  subst e
  refine (Memref.read_squeeze_slice C _ (fun _ => rfl) squeezes_S1x2000x128_S2000x128 squeezes_S1x2000x128_S2000x128.numel_eq _).trans ?_
  exact (congrArg (fun u => shapeCast S2000x128 u _) (View.read_write_univ _ _)).trans (shapeCast_shapeCast v _ _)

variable (X1 : Vec F S129x256 .f32) (X2 : Vec F S1x256 .f32) (X3 : Vec F S256x128 .f32) (X4 X5 : Vec F S1x128 .f32)

/-- Every window's step computes the same function of the slot it loads: the words the body stores, window by window. -/
theorem pay_eq (v : Vec F S1x2000x129 .f32) :
    k0_pay7 (k0_pay3 v X1 X2 X3) (k0_pay4 X5) (k0_pay5 v) (k0_pay6 X4)
        = shapeCast S1x2000x128 (blockF (shapeCast S2000x129 v shapeCasts_S1x2000x129_S2000x129) X1 X2 X3 X4 X5) shapeCasts_S2000x128_S1x2000x128
    ∧ k0_pay11 (k0_pay9 v) (k0_pay10 v X1 X2 X3) X4 X5
        = shapeCast S1x2000x128 (blockF (shapeCast S2000x129 v shapeCasts_S1x2000x129_S2000x129) X1 X2 X3 X4 X5) shapeCasts_S2000x128_S1x2000x128
    ∧ k0_pay17 (k0_pay13 v) (k0_pay14 v X1 X2) (k0_pay15 v) k0_pay16 X3 X4 X5
        = shapeCast S1x2000x128 (blockF (shapeCast S2000x129 v shapeCasts_S1x2000x129_S2000x129) X1 X2 X3 X4 X5) shapeCasts_S2000x128_S1x2000x128
    ∧ k0_pay21 (k0_pay19 v) (k0_pay20 v X1 X2) (iota .tc S2000x256 32 [1] iota_S2000x256_d1_w32) 128#32 X3 X4 X5
        = shapeCast S1x2000x128 (blockF (shapeCast S2000x129 v shapeCasts_S1x2000x129_S2000x129) X1 X2 X3 X4 X5) shapeCasts_S2000x128_S1x2000x128
    ∧ k0_pay25 (k0_pay23 v) (k0_pay24 v X1 X2) X3 X4 X5
        = shapeCast S1x2000x128 (blockF (shapeCast S2000x129 v shapeCasts_S1x2000x129_S2000x129) X1 X2 X3 X4 X5) shapeCasts_S2000x128_S1x2000x128 :=
  ⟨rfl, rfl, rfl, rfl, rfl⟩

/-- What row block `b` of window `j` of the result is to hold, given the weights. -/
def target (j : Fin 5) (b : Fin 10) : S2000x128.Idx → Elt F .f32 := blockF (xpay c XA j b) X1 X2 X3 X4 X5

/-- A row block of the result written whole from a slot that stores the step's words holds its part of the result:
    `p` the stored words as a function of the load. -/
theorem good_of (p : Vec F S1x2000x129 .f32 → FVec F S1x2000x128 .f32)
    (hp : ∀ v, p v = shapeCast S1x2000x128 (blockF (shapeCast S2000x129 v shapeCasts_S1x2000x129_S2000x129) X1 X2 X3 X4 X5) shapeCasts_S2000x128_S1x2000x128)
    (B : Memref sig .tc .vmem S3x2000x129 .f32) (C : Memref sig .tc .vmem S2x2000x128 .f32) (j : Fin 5) (s : Fin 3) (s' : Fin 2) (b : Fin 10)
    (f : Buf (Elt F) ((rslot B s).view.loc (c : Thread nD τ))) {off : Fin 3 → Nat} (e : off = slot3Off s) (h)
    (w : Buf (Elt F) ((wslot C s').view.loc (c : Thread nD τ))) {off' : Fin 3 → Nat} (e' : off' = slot2Off s') (h')
    (a : Buf (Elt F) ((oblk j b).view.loc (c : Thread nD τ))) :
    Good c (target c XA X1 X2 X3 X4 X5) j b ((oblk j b).view.writes (Elt F) a [⟨Rect.whole S2000x128, ReadAs.same.apply ((wslot C s').view.read (Elt F)
      (View.write (Elt F) (C.access (Rect.unit (s := S2x2000x128) off' S1x2000x128.size h')) w
        (p (View.readAt (Elt F) B.view (Rect.unit (s := S3x2000x129) off S1x2000x129.size h).toLoadRect (landed c XA B j s b f))) Finset.univ))⟩]) := by
  refine (View.read_writes_whole (oblk j b).view a _).trans ?_
  rw [hp, landed_load c XA B j s b f e h]
  exact stored_read c C s' w _ e' h'

end Values

end Cert.Proof.KernelIdeal

end
-- ==== Proof.Trip.lean ====
module

public import proofs.«01_k».proof.Proof.Block

/-! # One trip of the pipeline's loop -/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD) (XA : Buf (Elt F) ((Memref.whole main_arg0).view.loc (c : Thread nD τ)))
  (arg1 : Memref sig .tc .vmem S129x256 .f32) (harg1 : arg1.IsWhole) (arg2 : Memref sig .tc .vmem S1x256 .f32) (harg2 : arg2.IsWhole)
  (arg3 : Memref sig .tc .vmem S256x128 .f32) (harg3 : arg3.IsWhole) (arg4 : Memref sig .tc .vmem S1x128 .f32) (harg4 : arg4.IsWhole)
  (arg5 : Memref sig .tc .vmem S1x128 .f32) (harg5 : arg5.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ)))

/-- The five weight windows, held at their contents. -/
abbrev winP : sProp 𝕄 :=
  iprop((arg1.view.loc (c : Thread nD τ) ↦[arg1.view.set]{fullShare} g1) ∗ (arg2.view.loc (c : Thread nD τ) ↦[arg2.view.set]{fullShare} g2)
    ∗ (arg3.view.loc (c : Thread nD τ) ↦[arg3.view.set]{fullShare} g3) ∗ (arg4.view.loc (c : Thread nD τ) ↦[arg4.view.set]{fullShare} g4)
    ∗ (arg5.view.loc (c : Thread nD τ) ↦[arg5.view.set]{fullShare} g5))

/-- What each row block of the result is to hold, the weights as the body loads them. -/
abbrev tgt : Fin 5 → Fin 10 → S2000x128.Idx → Elt F .f32 :=
  target c XA (View.readAt (Elt F) arg1.view (Rect.unit ![0, 0] S129x256.size inb_S129x256_S129x256_0_0).toLoadRect g1)
    (View.readAt (Elt F) arg2.view (Rect.unit ![0, 0] S1x256.size inb_S1x256_S1x256_0_0).toLoadRect g2)
    (View.readAt (Elt F) arg3.view (Rect.unit ![0, 0] S256x128.size inb_S256x128_S256x128_0_0).toLoadRect g3)
    (View.readAt (Elt F) arg4.view (Rect.unit ![0, 0] S1x128.size inb_S1x128_S1x128_0_0).toLoadRect g4)
    (View.readAt (Elt F) arg5.view (Rect.unit ![0, 0] S1x128.size inb_S1x128_S1x128_0_0).toLoadRect g5)

/-- What the loop holds before trip `k`. -/
def resAt (k : ℕ) : sProp 𝕄 :=
  iprop(winP c arg1 arg2 arg3 arg4 arg5 g1 g2 g3 g4 g5 ∗ (∃ W, owes (c : Thread nD τ) 0 W)
    ∗ ringX c XA bx0 sx0 0 k ∗ ringX c XA bx1 sx1 1 k ∗ ringX c XA bx2 sx2 2 k ∗ ringX c XA bx3 sx3 3 k ∗ ringX c XA bx4 sx4 4 k
    ∗ ringO c (tgt c XA arg1 arg2 arg3 arg4 arg5 g1 g2 g3 g4 g5) bo0 so0 0 k ∗ ringO c (tgt c XA arg1 arg2 arg3 arg4 arg5 g1 g2 g3 g4 g5) bo1 so1 1 k ∗ ringO c (tgt c XA arg1 arg2 arg3 arg4 arg5 g1 g2 g3 g4 g5) bo2 so2 2 k ∗ ringO c (tgt c XA arg1 arg2 arg3 arg4 arg5 g1 g2 g3 g4 g5) bo3 so3 3 k ∗ ringO c (tgt c XA arg1 arg2 arg3 arg4 arg5 g1 g2 g3 g4 g5) bo4 so4 4 k)

variable (v17 v55 v62 v71 v80 v89 : BitVec 32) (v93 t83 : BitVec 1)

/-- The carried words, from the four that differ. -/
theorem accAt_of {a b d e : BitVec 32} {k : ℕ} (h : a = wI k ∧ b = wK k ∧ d = wO k ∧ e = wG k) :
    (a, b, a, b, a, b, a, b, a, b, b, d, b, d, b, d, b, d, b, d, e) = accAt k := by
  obtain ⟨rfl, rfl, rfl, rfl⟩ := h; rfl

/-- The loop's body at trip `k`, at the words carried. -/
abbrev tripG (k : Trip) := k0_t1_body (F := F) (Memref.whole main_arg0) (Memref.isWhole_whole _) arg1 harg1 arg2 harg2 arg3 harg3 arg4 harg4 arg5 harg5
  (Memref.whole main_v0) (Memref.isWhole_whole _) bx0 (Memref.isWhole_whole _) sx0 bx1 (Memref.isWhole_whole _) sx1 bx2 (Memref.isWhole_whole _) sx2 bx3 (Memref.isWhole_whole _) sx3 bx4 (Memref.isWhole_whole _) sx4 bo0 (Memref.isWhole_whole _) so0 bo1 (Memref.isWhole_whole _) so1 bo2 (Memref.isWhole_whole _) so2 bo3 (Memref.isWhole_whole _) so3 bo4 (Memref.isWhole_whole _) so4 v17 v55 v62 v71 v80 v89 v93 t83 k (accAt k.val)

/-- A trip in the middle: it issues, waits, computes, issues the result and waits for the one before. -/
theorem trip_mid (k : Trip) (h : k.val + 2 < 10) (h1 : 1 ≤ k.val) :
    resAt c XA arg1 arg2 arg3 arg4 arg5 g1 g2 g3 g4 g5 k.val
      ⊢ wp frame (wpE (defs₀ (F := F)) 𝒱₀ (c : Thread nD τ) none) Set.univ (tripG arg1 harg1 arg2 harg2 arg3 harg3 arg4 harg4 arg5 harg5 v17 v55 v62 v71 v80 v89 v93 t83 k)
        (fun acc => iprop(⌜acc = accAt (k.val + 1)⌝ ∗ resAt c XA arg1 arg2 arg3 arg4 arg5 g1 g2 g3 g4 g5 (k.val + 1))) := by
  have hk := trip_lt k
  obtain ⟨c6, c7, c8, c9, c10⟩ := issue_cond k h
  obtain ⟨c36, c37, c38, c39, c40⟩ := behind_cond k h1
  obtain ⟨c11, c12, c13, c14, c15⟩ := wait_cond k
  obtain ⟨c26, c27, c28, c29, c30⟩ := out_cond k
  obtain ⟨e2, e3, e4, e5, e6, e7, e8, e9, e10, e11⟩ := chk_words k
  have e1 := chk_trip k
  unfold resAt
  simp only [ringX, ringO, Ring.At3_here _ _ _ _ k.val h, Ring.At3_next _ _ _ _ k.val h, Ring.slotAt3_next0 _ _ _ k.val (show k.val + 1 < 10 by omega),
    Ring.slotAt3_next1 _ _ _ k.val h, Ring.AtB21_here _ _ _ _ k.val h1 hk, Ring.AtB21_next _ _ _ _ k.val h1 hk]
  simp only [Ring.inflight, Ring.free]
  iintro ⟨⟨H1, H2, H3, H4, H5⟩, ⟨%W, HW⟩, ⟨⟨Hh0, Hr0⟩, ⟨%f0, HF0⟩, HG0, ⟨Hc0, ⟨%s0, Hs0⟩⟩⟩, ⟨⟨Hh1, Hr1⟩, ⟨%f1, HF1⟩, HG1, ⟨Hc1, ⟨%s1, Hs1⟩⟩⟩, ⟨⟨Hh2, Hr2⟩, ⟨%f2, HF2⟩, HG2, ⟨Hc2, ⟨%s2, Hs2⟩⟩⟩, ⟨⟨Hh3, Hr3⟩, ⟨%f3, HF3⟩, HG3, ⟨Hc3, ⟨%s3, Hs3⟩⟩⟩, ⟨⟨Hh4, Hr4⟩, ⟨%f4, HF4⟩, HG4, ⟨Hc4, ⟨%s4, Hs4⟩⟩⟩, ⟨⟨⟨%a0, Ha0⟩, Hq0⟩, Hb0, ⟨Hd0, ⟨%w0, Hw0⟩⟩, ⟨%p0, %q0, HI0, %ok0⟩⟩, ⟨⟨⟨%a1, Ha1⟩, Hq1⟩, Hb1, ⟨Hd1, ⟨%w1, Hw1⟩⟩, ⟨%p1, %q1, HI1, %ok1⟩⟩, ⟨⟨⟨%a2, Ha2⟩, Hq2⟩, Hb2, ⟨Hd2, ⟨%w2, Hw2⟩⟩, ⟨%p2, %q2, HI2, %ok2⟩⟩, ⟨⟨⟨%a3, Ha3⟩, Hq3⟩, Hb3, ⟨Hd3, ⟨%w3, Hw3⟩⟩, ⟨%p3, %q3, HI3, %ok3⟩⟩, ⟨⟨⟨%a4, Ha4⟩, Hq4⟩, Hb4, ⟨Hd4, ⟨%w4, Hw4⟩⟩, ⟨%p4, %q4, HI4, %ok4⟩⟩⟩
  dsimp only [tripG]
  sl_unfold [k0_t1_body]
  sl_exec
  sl_step
  isplitr
  · ipureintro
    refine accAt_of ?_
    clear * - h h1
    revert k; decide +kernel
  isplitl [H1 H2 H3 H4 H5]
  · isplitl [H1]; · iexact H1
    isplitl [H2]; · iexact H2
    isplitl [H3]; · iexact H3
    isplitl [H4]; · iexact H4
    iexact H5
  isplitl [HW]; · iexists _; iexact HW
  isplitl [HF0_src Hr0 HG0 Hc0 HF0 HF0_dst]
  · isplitl [HF0_src Hr0]
    · isplitl [HF0_src]; · iexact HF0_src
      iexact Hr0
    isplitl [HG0]; · iexact HG0
    isplitl [Hc0]; · iexists s0; iexact Hc0
    isplitl [HF0]; · iexact HF0
    iexists _; iexact HF0_dst
  isplitl [HF1_src Hr1 HG1 Hc1 HF1 HF1_dst]
  · isplitl [HF1_src Hr1]
    · isplitl [HF1_src]; · iexact HF1_src
      iexact Hr1
    isplitl [HG1]; · iexact HG1
    isplitl [Hc1]; · iexists s1; iexact Hc1
    isplitl [HF1]; · iexact HF1
    iexists _; iexact HF1_dst
  isplitl [HF2_src Hr2 HG2 Hc2 HF2 HF2_dst]
  · isplitl [HF2_src Hr2]
    · isplitl [HF2_src]; · iexact HF2_src
      iexact Hr2
    isplitl [HG2]; · iexact HG2
    isplitl [Hc2]; · iexists s2; iexact Hc2
    isplitl [HF2]; · iexact HF2
    iexists _; iexact HF2_dst
  isplitl [HF3_src Hr3 HG3 Hc3 HF3 HF3_dst]
  · isplitl [HF3_src Hr3]
    · isplitl [HF3_src]; · iexact HF3_src
      iexact Hr3
    isplitl [HG3]; · iexact HG3
    isplitl [Hc3]; · iexists s3; iexact Hc3
    isplitl [HF3]; · iexact HF3
    iexists _; iexact HF3_dst
  isplitl [HF4_src Hr4 HG4 Hc4 HF4 HF4_dst]
  · isplitl [HF4_src Hr4]
    · isplitl [HF4_src]; · iexact HF4_src
      iexact Hr4
    isplitl [HG4]; · iexact HG4
    isplitl [Hc4]; · iexists s4; iexact Hc4
    isplitl [HF4]; · iexact HF4
    iexists _; iexact HF4_dst
  isplitl [Hq0 Hb0 Hd0 HI0 HI0_dst HI0_src]
  · isplitl [Hq0]; · iexact Hq0
    isplitl [HI0_dst Hb0]
    · isplitl [HI0_dst]
      · iexists p0
        isplitl [HI0_dst]; · iexact HI0_dst
        ipureintro; exact ok0
      iexact Hb0
    isplitl [HI0 HI0_src]
    · isplitl [HI0]; · iexact HI0
      iexists _; iexact HI0_src
    iexists _, _
    isplitl [Hd0]; · iexact Hd0
    ipureintro; exact good_of c XA _ _ _ _ _ (fun v => k0_pay7 (k0_pay3 v _ _ _) (k0_pay4 _) (k0_pay5 v) (k0_pay6 _)) (fun v => (pay_eq _ _ _ _ _ v).1) bx0 bo0 0 (Ring.sl 3 k.val) (Ring.sl 2 k.val) (Ring.bk 10 k.val) _ (load_off k).1 _ _ (store_off k).1 _ _
  isplitl [Hq1 Hb1 Hd1 HI1 HI1_dst HI1_src]
  · isplitl [Hq1]; · iexact Hq1
    isplitl [HI1_dst Hb1]
    · isplitl [HI1_dst]
      · iexists p1
        isplitl [HI1_dst]; · iexact HI1_dst
        ipureintro; exact ok1
      iexact Hb1
    isplitl [HI1 HI1_src]
    · isplitl [HI1]; · iexact HI1
      iexists _; iexact HI1_src
    iexists _, _
    isplitl [Hd1]; · iexact Hd1
    ipureintro; exact good_of c XA _ _ _ _ _ (fun v => k0_pay11 (k0_pay9 v) (k0_pay10 v _ _ _) _ _) (fun v => (pay_eq _ _ _ _ _ v).2.1) bx1 bo1 1 (Ring.sl 3 k.val) (Ring.sl 2 k.val) (Ring.bk 10 k.val) _ (load_off k).2.1 _ _ (store_off k).2.1 _ _
  isplitl [Hq2 Hb2 Hd2 HI2 HI2_dst HI2_src]
  · isplitl [Hq2]; · iexact Hq2
    isplitl [HI2_dst Hb2]
    · isplitl [HI2_dst]
      · iexists p2
        isplitl [HI2_dst]; · iexact HI2_dst
        ipureintro; exact ok2
      iexact Hb2
    isplitl [HI2 HI2_src]
    · isplitl [HI2]; · iexact HI2
      iexists _; iexact HI2_src
    iexists _, _
    isplitl [Hd2]; · iexact Hd2
    ipureintro; exact good_of c XA _ _ _ _ _ (fun v => k0_pay17 (k0_pay13 v) (k0_pay14 v _ _) (k0_pay15 v) k0_pay16 _ _ _) (fun v => (pay_eq _ _ _ _ _ v).2.2.1) bx2 bo2 2 (Ring.sl 3 k.val) (Ring.sl 2 k.val) (Ring.bk 10 k.val) _ (load_off k).2.2.1 _ _ (store_off k).2.2.1 _ _
  isplitl [Hq3 Hb3 Hd3 HI3 HI3_dst HI3_src]
  · isplitl [Hq3]; · iexact Hq3
    isplitl [HI3_dst Hb3]
    · isplitl [HI3_dst]
      · iexists p3
        isplitl [HI3_dst]; · iexact HI3_dst
        ipureintro; exact ok3
      iexact Hb3
    isplitl [HI3 HI3_src]
    · isplitl [HI3]; · iexact HI3
      iexists _; iexact HI3_src
    iexists _, _
    isplitl [Hd3]; · iexact Hd3
    ipureintro; exact good_of c XA _ _ _ _ _ (fun v => k0_pay21 (k0_pay19 v) (k0_pay20 v _ _) (iota .tc S2000x256 32 [1] iota_S2000x256_d1_w32) 128#32 _ _ _) (fun v => (pay_eq _ _ _ _ _ v).2.2.2.1) bx3 bo3 3 (Ring.sl 3 k.val) (Ring.sl 2 k.val) (Ring.bk 10 k.val) _ (load_off k).2.2.2.1 _ _ (store_off k).2.2.2.1 _ _
  isplitl [Hq4]; · iexact Hq4
  isplitl [HI4_dst Hb4]
  · isplitl [HI4_dst]
    · iexists p4
      isplitl [HI4_dst]; · iexact HI4_dst
      ipureintro; exact ok4
    iexact Hb4
  isplitl [HI4 HI4_src]
  · isplitl [HI4]; · iexact HI4
    iexists _; iexact HI4_src
  iexists _, _
  isplitl [Hd4]; · iexact Hd4
  ipureintro; exact good_of c XA _ _ _ _ _ (fun v => k0_pay25 (k0_pay23 v) (k0_pay24 v _ _) _ _ _) (fun v => (pay_eq _ _ _ _ _ v).2.2.2.2) bx4 bo4 4 (Ring.sl 3 k.val) (Ring.sl 2 k.val) (Ring.bk 10 k.val) _ (load_off k).2.2.2.2 _ _ (store_off k).2.2.2.2 _ _

/-- The first trip: no result is in flight yet. -/
theorem trip_boot (k : Trip) (h : k.val + 2 < 10) (h1 : ¬ 1 ≤ k.val) :
    resAt c XA arg1 arg2 arg3 arg4 arg5 g1 g2 g3 g4 g5 k.val
      ⊢ wp frame (wpE (defs₀ (F := F)) 𝒱₀ (c : Thread nD τ) none) Set.univ (tripG arg1 harg1 arg2 harg2 arg3 harg3 arg4 harg4 arg5 harg5 v17 v55 v62 v71 v80 v89 v93 t83 k)
        (fun acc => iprop(⌜acc = accAt (k.val + 1)⌝ ∗ resAt c XA arg1 arg2 arg3 arg4 arg5 g1 g2 g3 g4 g5 (k.val + 1))) := by
  have hk := trip_lt k
  obtain ⟨c6, c7, c8, c9, c10⟩ := issue_cond k h
  obtain ⟨c36, c37, c38, c39, c40⟩ := no_behind_cond k h1
  obtain ⟨c11, c12, c13, c14, c15⟩ := wait_cond k
  obtain ⟨c26, c27, c28, c29, c30⟩ := out_cond k
  obtain ⟨e2, e3, e4, e5, e6, e7, e8, e9, e10, e11⟩ := chk_words k
  have e1 := chk_trip k
  unfold resAt
  simp only [ringX, ringO, Ring.At3_here _ _ _ _ k.val h, Ring.At3_next _ _ _ _ k.val h, Ring.slotAt3_next0 _ _ _ k.val (show k.val + 1 < 10 by omega),
    Ring.slotAt3_next1 _ _ _ k.val h, Ring.AtB2_zero' _ _ _ _ _ k.val (show k.val = 0 by omega), Ring.AtB21_next_zero' _ _ _ _ k.val (show k.val = 0 by omega)]
  simp only [Ring.inflight, Ring.free]
  iintro ⟨⟨H1, H2, H3, H4, H5⟩, ⟨%W, HW⟩, ⟨⟨Hh0, Hr0⟩, ⟨%f0, HF0⟩, HG0, ⟨Hc0, ⟨%s0, Hs0⟩⟩⟩, ⟨⟨Hh1, Hr1⟩, ⟨%f1, HF1⟩, HG1, ⟨Hc1, ⟨%s1, Hs1⟩⟩⟩, ⟨⟨Hh2, Hr2⟩, ⟨%f2, HF2⟩, HG2, ⟨Hc2, ⟨%s2, Hs2⟩⟩⟩, ⟨⟨Hh3, Hr3⟩, ⟨%f3, HF3⟩, HG3, ⟨Hc3, ⟨%s3, Hs3⟩⟩⟩, ⟨⟨Hh4, Hr4⟩, ⟨%f4, HF4⟩, HG4, ⟨Hc4, ⟨%s4, Hs4⟩⟩⟩, ⟨⟨⟨%a0, Ha0⟩, Hq0⟩, ⟨Hd0, ⟨%w0, Hw0⟩⟩, HI0⟩, ⟨⟨⟨%a1, Ha1⟩, Hq1⟩, ⟨Hd1, ⟨%w1, Hw1⟩⟩, HI1⟩, ⟨⟨⟨%a2, Ha2⟩, Hq2⟩, ⟨Hd2, ⟨%w2, Hw2⟩⟩, HI2⟩, ⟨⟨⟨%a3, Ha3⟩, Hq3⟩, ⟨Hd3, ⟨%w3, Hw3⟩⟩, HI3⟩, ⟨⟨⟨%a4, Ha4⟩, Hq4⟩, ⟨Hd4, ⟨%w4, Hw4⟩⟩, HI4⟩⟩
  dsimp only [tripG]
  sl_unfold [k0_t1_body]
  sl_exec
  sl_step
  isplitr
  · ipureintro
    refine accAt_of ?_
    clear * - h h1
    revert k; decide +kernel
  isplitl [H1 H2 H3 H4 H5]
  · isplitl [H1]; · iexact H1
    isplitl [H2]; · iexact H2
    isplitl [H3]; · iexact H3
    isplitl [H4]; · iexact H4
    iexact H5
  isplitl [HW]; · iexists _; iexact HW
  isplitl [HF0_src Hr0 HG0 Hc0 HF0 HF0_dst]
  · isplitl [HF0_src Hr0]
    · isplitl [HF0_src]; · iexact HF0_src
      iexact Hr0
    isplitl [HG0]; · iexact HG0
    isplitl [Hc0]; · iexists s0; iexact Hc0
    isplitl [HF0]; · iexact HF0
    iexists _; iexact HF0_dst
  isplitl [HF1_src Hr1 HG1 Hc1 HF1 HF1_dst]
  · isplitl [HF1_src Hr1]
    · isplitl [HF1_src]; · iexact HF1_src
      iexact Hr1
    isplitl [HG1]; · iexact HG1
    isplitl [Hc1]; · iexists s1; iexact Hc1
    isplitl [HF1]; · iexact HF1
    iexists _; iexact HF1_dst
  isplitl [HF2_src Hr2 HG2 Hc2 HF2 HF2_dst]
  · isplitl [HF2_src Hr2]
    · isplitl [HF2_src]; · iexact HF2_src
      iexact Hr2
    isplitl [HG2]; · iexact HG2
    isplitl [Hc2]; · iexists s2; iexact Hc2
    isplitl [HF2]; · iexact HF2
    iexists _; iexact HF2_dst
  isplitl [HF3_src Hr3 HG3 Hc3 HF3 HF3_dst]
  · isplitl [HF3_src Hr3]
    · isplitl [HF3_src]; · iexact HF3_src
      iexact Hr3
    isplitl [HG3]; · iexact HG3
    isplitl [Hc3]; · iexists s3; iexact Hc3
    isplitl [HF3]; · iexact HF3
    iexists _; iexact HF3_dst
  isplitl [HF4_src Hr4 HG4 Hc4 HF4 HF4_dst]
  · isplitl [HF4_src Hr4]
    · isplitl [HF4_src]; · iexact HF4_src
      iexact Hr4
    isplitl [HG4]; · iexact HG4
    isplitl [Hc4]; · iexists s4; iexact Hc4
    isplitl [HF4]; · iexact HF4
    iexists _; iexact HF4_dst
  isplitl [Hq0 Hd0 HI0]
  · isplitl [Hq0]; · iexact Hq0
    isplitl [HI0]; · iexact HI0
    iexists _, _
    isplitl [Hd0]; · iexact Hd0
    ipureintro; exact good_of c XA _ _ _ _ _ (fun v => k0_pay7 (k0_pay3 v _ _ _) (k0_pay4 _) (k0_pay5 v) (k0_pay6 _)) (fun v => (pay_eq _ _ _ _ _ v).1) bx0 bo0 0 (Ring.sl 3 k.val) (Ring.sl 2 k.val) (Ring.bk 10 k.val) _ (load_off k).1 _ _ (store_off k).1 _ _
  isplitl [Hq1 Hd1 HI1]
  · isplitl [Hq1]; · iexact Hq1
    isplitl [HI1]; · iexact HI1
    iexists _, _
    isplitl [Hd1]; · iexact Hd1
    ipureintro; exact good_of c XA _ _ _ _ _ (fun v => k0_pay11 (k0_pay9 v) (k0_pay10 v _ _ _) _ _) (fun v => (pay_eq _ _ _ _ _ v).2.1) bx1 bo1 1 (Ring.sl 3 k.val) (Ring.sl 2 k.val) (Ring.bk 10 k.val) _ (load_off k).2.1 _ _ (store_off k).2.1 _ _
  isplitl [Hq2 Hd2 HI2]
  · isplitl [Hq2]; · iexact Hq2
    isplitl [HI2]; · iexact HI2
    iexists _, _
    isplitl [Hd2]; · iexact Hd2
    ipureintro; exact good_of c XA _ _ _ _ _ (fun v => k0_pay17 (k0_pay13 v) (k0_pay14 v _ _) (k0_pay15 v) k0_pay16 _ _ _) (fun v => (pay_eq _ _ _ _ _ v).2.2.1) bx2 bo2 2 (Ring.sl 3 k.val) (Ring.sl 2 k.val) (Ring.bk 10 k.val) _ (load_off k).2.2.1 _ _ (store_off k).2.2.1 _ _
  isplitl [Hq3 Hd3 HI3]
  · isplitl [Hq3]; · iexact Hq3
    isplitl [HI3]; · iexact HI3
    iexists _, _
    isplitl [Hd3]; · iexact Hd3
    ipureintro; exact good_of c XA _ _ _ _ _ (fun v => k0_pay21 (k0_pay19 v) (k0_pay20 v _ _) (iota .tc S2000x256 32 [1] iota_S2000x256_d1_w32) 128#32 _ _ _) (fun v => (pay_eq _ _ _ _ _ v).2.2.2.1) bx3 bo3 3 (Ring.sl 3 k.val) (Ring.sl 2 k.val) (Ring.bk 10 k.val) _ (load_off k).2.2.2.1 _ _ (store_off k).2.2.2.1 _ _
  isplitl [Hq4]; · iexact Hq4
  isplitl [HI4]; · iexact HI4
  iexists _, _
  isplitl [Hd4]; · iexact Hd4
  ipureintro; exact good_of c XA _ _ _ _ _ (fun v => k0_pay25 (k0_pay23 v) (k0_pay24 v _ _) _ _ _) (fun v => (pay_eq _ _ _ _ _ v).2.2.2.2) bx4 bo4 4 (Ring.sl 3 k.val) (Ring.sl 2 k.val) (Ring.bk 10 k.val) _ (load_off k).2.2.2.2 _ _ (store_off k).2.2.2.2 _ _

/-- The last two trips: nothing is left to issue. -/
theorem trip_tail (k : Trip) (h : ¬ k.val + 2 < 10) (h1 : 1 ≤ k.val) :
    resAt c XA arg1 arg2 arg3 arg4 arg5 g1 g2 g3 g4 g5 k.val
      ⊢ wp frame (wpE (defs₀ (F := F)) 𝒱₀ (c : Thread nD τ) none) Set.univ (tripG arg1 harg1 arg2 harg2 arg3 harg3 arg4 harg4 arg5 harg5 v17 v55 v62 v71 v80 v89 v93 t83 k)
        (fun acc => iprop(⌜acc = accAt (k.val + 1)⌝ ∗ resAt c XA arg1 arg2 arg3 arg4 arg5 g1 g2 g3 g4 g5 (k.val + 1))) := by
  have hk := trip_lt k
  obtain ⟨c6, c7, c8, c9, c10⟩ := no_issue_cond k h
  obtain ⟨c36, c37, c38, c39, c40⟩ := behind_cond k h1
  obtain ⟨c11, c12, c13, c14, c15⟩ := wait_cond k
  obtain ⟨c26, c27, c28, c29, c30⟩ := out_cond k
  obtain ⟨e2, e3, e4, e5, e6, e7, e8, e9, e10, e11⟩ := chk_words k
  have e1 := chk_trip k
  unfold resAt
  simp only [ringX, ringO, Ring.At3_here_tail _ _ _ _ k.val hk, Ring.At3_next_tail _ _ _ _ k.val (show 10 ≤ k.val + 2 by omega) hk, Ring.slotAt3_tail_role, Ring.AtB21_here _ _ _ _ k.val h1 hk, Ring.AtB21_next _ _ _ _ k.val h1 hk]
  simp only [Ring.inflight, Ring.free]
  iintro ⟨⟨H1, H2, H3, H4, H5⟩, ⟨%W, HW⟩, ⟨Hr0, ⟨%f0, HF0⟩, HG0, Hc0⟩, ⟨Hr1, ⟨%f1, HF1⟩, HG1, Hc1⟩, ⟨Hr2, ⟨%f2, HF2⟩, HG2, Hc2⟩, ⟨Hr3, ⟨%f3, HF3⟩, HG3, Hc3⟩, ⟨Hr4, ⟨%f4, HF4⟩, HG4, Hc4⟩, ⟨⟨⟨%a0, Ha0⟩, Hq0⟩, Hb0, ⟨Hd0, ⟨%w0, Hw0⟩⟩, ⟨%p0, %q0, HI0, %ok0⟩⟩, ⟨⟨⟨%a1, Ha1⟩, Hq1⟩, Hb1, ⟨Hd1, ⟨%w1, Hw1⟩⟩, ⟨%p1, %q1, HI1, %ok1⟩⟩, ⟨⟨⟨%a2, Ha2⟩, Hq2⟩, Hb2, ⟨Hd2, ⟨%w2, Hw2⟩⟩, ⟨%p2, %q2, HI2, %ok2⟩⟩, ⟨⟨⟨%a3, Ha3⟩, Hq3⟩, Hb3, ⟨Hd3, ⟨%w3, Hw3⟩⟩, ⟨%p3, %q3, HI3, %ok3⟩⟩, ⟨⟨⟨%a4, Ha4⟩, Hq4⟩, Hb4, ⟨Hd4, ⟨%w4, Hw4⟩⟩, ⟨%p4, %q4, HI4, %ok4⟩⟩⟩
  dsimp only [tripG]
  sl_unfold [k0_t1_body]
  sl_exec
  sl_step
  isplitr
  · ipureintro
    refine accAt_of ?_
    clear * - h h1
    revert k; decide +kernel
  isplitl [H1 H2 H3 H4 H5]
  · isplitl [H1]; · iexact H1
    isplitl [H2]; · iexact H2
    isplitl [H3]; · iexact H3
    isplitl [H4]; · iexact H4
    iexact H5
  isplitl [HW]; · iexists _; iexact HW
  isplitl [HF0_src Hr0 HG0 Hc0 HF0 HF0_dst]
  · isplitl [HF0_src Hr0]
    · isplitl [HF0_src]; · iexact HF0_src
      iexact Hr0
    isplitl [HG0]; · iexact HG0
    isplitl [Hc0]; · iexact Hc0
    isplitl [HF0]; · iexact HF0
    iexists _; iexact HF0_dst
  isplitl [HF1_src Hr1 HG1 Hc1 HF1 HF1_dst]
  · isplitl [HF1_src Hr1]
    · isplitl [HF1_src]; · iexact HF1_src
      iexact Hr1
    isplitl [HG1]; · iexact HG1
    isplitl [Hc1]; · iexact Hc1
    isplitl [HF1]; · iexact HF1
    iexists _; iexact HF1_dst
  isplitl [HF2_src Hr2 HG2 Hc2 HF2 HF2_dst]
  · isplitl [HF2_src Hr2]
    · isplitl [HF2_src]; · iexact HF2_src
      iexact Hr2
    isplitl [HG2]; · iexact HG2
    isplitl [Hc2]; · iexact Hc2
    isplitl [HF2]; · iexact HF2
    iexists _; iexact HF2_dst
  isplitl [HF3_src Hr3 HG3 Hc3 HF3 HF3_dst]
  · isplitl [HF3_src Hr3]
    · isplitl [HF3_src]; · iexact HF3_src
      iexact Hr3
    isplitl [HG3]; · iexact HG3
    isplitl [Hc3]; · iexact Hc3
    isplitl [HF3]; · iexact HF3
    iexists _; iexact HF3_dst
  isplitl [HF4_src Hr4 HG4 Hc4 HF4 HF4_dst]
  · isplitl [HF4_src Hr4]
    · isplitl [HF4_src]; · iexact HF4_src
      iexact Hr4
    isplitl [HG4]; · iexact HG4
    isplitl [Hc4]; · iexact Hc4
    isplitl [HF4]; · iexact HF4
    iexists _; iexact HF4_dst
  isplitl [Hq0 Hb0 Hd0 HI0 HI0_dst HI0_src]
  · isplitl [Hq0]; · iexact Hq0
    isplitl [HI0_dst Hb0]
    · isplitl [HI0_dst]
      · iexists p0
        isplitl [HI0_dst]; · iexact HI0_dst
        ipureintro; exact ok0
      iexact Hb0
    isplitl [HI0 HI0_src]
    · isplitl [HI0]; · iexact HI0
      iexists _; iexact HI0_src
    iexists _, _
    isplitl [Hd0]; · iexact Hd0
    ipureintro; exact good_of c XA _ _ _ _ _ (fun v => k0_pay7 (k0_pay3 v _ _ _) (k0_pay4 _) (k0_pay5 v) (k0_pay6 _)) (fun v => (pay_eq _ _ _ _ _ v).1) bx0 bo0 0 (Ring.sl 3 k.val) (Ring.sl 2 k.val) (Ring.bk 10 k.val) _ (load_off k).1 _ _ (store_off k).1 _ _
  isplitl [Hq1 Hb1 Hd1 HI1 HI1_dst HI1_src]
  · isplitl [Hq1]; · iexact Hq1
    isplitl [HI1_dst Hb1]
    · isplitl [HI1_dst]
      · iexists p1
        isplitl [HI1_dst]; · iexact HI1_dst
        ipureintro; exact ok1
      iexact Hb1
    isplitl [HI1 HI1_src]
    · isplitl [HI1]; · iexact HI1
      iexists _; iexact HI1_src
    iexists _, _
    isplitl [Hd1]; · iexact Hd1
    ipureintro; exact good_of c XA _ _ _ _ _ (fun v => k0_pay11 (k0_pay9 v) (k0_pay10 v _ _ _) _ _) (fun v => (pay_eq _ _ _ _ _ v).2.1) bx1 bo1 1 (Ring.sl 3 k.val) (Ring.sl 2 k.val) (Ring.bk 10 k.val) _ (load_off k).2.1 _ _ (store_off k).2.1 _ _
  isplitl [Hq2 Hb2 Hd2 HI2 HI2_dst HI2_src]
  · isplitl [Hq2]; · iexact Hq2
    isplitl [HI2_dst Hb2]
    · isplitl [HI2_dst]
      · iexists p2
        isplitl [HI2_dst]; · iexact HI2_dst
        ipureintro; exact ok2
      iexact Hb2
    isplitl [HI2 HI2_src]
    · isplitl [HI2]; · iexact HI2
      iexists _; iexact HI2_src
    iexists _, _
    isplitl [Hd2]; · iexact Hd2
    ipureintro; exact good_of c XA _ _ _ _ _ (fun v => k0_pay17 (k0_pay13 v) (k0_pay14 v _ _) (k0_pay15 v) k0_pay16 _ _ _) (fun v => (pay_eq _ _ _ _ _ v).2.2.1) bx2 bo2 2 (Ring.sl 3 k.val) (Ring.sl 2 k.val) (Ring.bk 10 k.val) _ (load_off k).2.2.1 _ _ (store_off k).2.2.1 _ _
  isplitl [Hq3 Hb3 Hd3 HI3 HI3_dst HI3_src]
  · isplitl [Hq3]; · iexact Hq3
    isplitl [HI3_dst Hb3]
    · isplitl [HI3_dst]
      · iexists p3
        isplitl [HI3_dst]; · iexact HI3_dst
        ipureintro; exact ok3
      iexact Hb3
    isplitl [HI3 HI3_src]
    · isplitl [HI3]; · iexact HI3
      iexists _; iexact HI3_src
    iexists _, _
    isplitl [Hd3]; · iexact Hd3
    ipureintro; exact good_of c XA _ _ _ _ _ (fun v => k0_pay21 (k0_pay19 v) (k0_pay20 v _ _) (iota .tc S2000x256 32 [1] iota_S2000x256_d1_w32) 128#32 _ _ _) (fun v => (pay_eq _ _ _ _ _ v).2.2.2.1) bx3 bo3 3 (Ring.sl 3 k.val) (Ring.sl 2 k.val) (Ring.bk 10 k.val) _ (load_off k).2.2.2.1 _ _ (store_off k).2.2.2.1 _ _
  isplitl [Hq4]; · iexact Hq4
  isplitl [HI4_dst Hb4]
  · isplitl [HI4_dst]
    · iexists p4
      isplitl [HI4_dst]; · iexact HI4_dst
      ipureintro; exact ok4
    iexact Hb4
  isplitl [HI4 HI4_src]
  · isplitl [HI4]; · iexact HI4
    iexists _; iexact HI4_src
  iexists _, _
  isplitl [Hd4]; · iexact Hd4
  ipureintro; exact good_of c XA _ _ _ _ _ (fun v => k0_pay25 (k0_pay23 v) (k0_pay24 v _ _) _ _ _) (fun v => (pay_eq _ _ _ _ _ v).2.2.2.2) bx4 bo4 4 (Ring.sl 3 k.val) (Ring.sl 2 k.val) (Ring.bk 10 k.val) _ (load_off k).2.2.2.2 _ _ (store_off k).2.2.2.2 _ _

end Trip

end Cert.Proof.KernelIdeal

end
-- ==== Proof.Body.lean ====
module

public import proofs.«01_k».proof.Proof.Trip

/-! # The kernel's body: prologue, loop, epilogue -/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Rings
variable (c : Dev nD) (XA : Buf (Elt F) ((Memref.whole main_arg0).view.loc (c : Thread nD τ)))
  (RB : Fin 5 → Fin 10 → S2000x128.Idx → Elt F .f32)
  (B : Memref sig .tc .vmem S3x2000x129 .f32) (A : DmaSems sig S3)
  (C : Memref sig .tc .vmem S2x2000x128 .f32) (D : DmaSems sig S2) (j : Fin 5)

/-- An input ring at rest: every row block at home, every slot free. -/
abbrev ringX0 : sProp 𝕄 := Ring.At₀ (NB := 10) (cellP (F := F) c A) (slotP c B) (homeP c XA j)
/-- A result ring at rest: before the run nothing is written, after it every row block is. -/
abbrev ringO0 : sProp 𝕄 := Ring.AtB₀ (NB := 10) (wfree (F := F) c C D) (aheadP (F := F) c j)
abbrev ringOE : sProp 𝕄 := Ring.AtBEnd (NB := 10) (wfree (F := F) c C D) (behindP c RB j)

/-- The input ring at rest, what the prologue issues apart. -/
theorem ringX0_open : ringX0 c XA B A j
    = iprop((homeP c XA j 0 ∗ homeP c XA j 1 ∗ homeP c XA j 2 ∗ bigSep ((Ring.homeSet 2 0).erase (2 : Fin 10)) (homeP c XA j))
        ∗ (cellP (F := F) c A 0 ∗ ∃ f, slotP c B 0 f) ∗ (cellP (F := F) c A 1 ∗ ∃ f, slotP c B 1 f) ∗ (cellP (F := F) c A 2 ∗ ∃ f, slotP c B 2 f)) :=
  Ring.At₀_eq3 _ _ _ (by decide)

/-- The ring before trip 0, from what the prologue leaves. -/
theorem ringX_start : ringX c XA B A j 0
    = iprop((homeP c XA j 2 ∗ bigSep ((Ring.homeSet 2 0).erase (2 : Fin 10)) (homeP c XA j))
        ∗ (∃ f, flightP c XA B A j 0 0 f) ∗ (∃ f, flightP c XA B A j 1 1 f) ∗ (cellP (F := F) c A 2 ∗ ∃ f, slotP c B 2 f)) :=
  Ring.At3_here _ _ _ _ 0 (by decide)

/-- After the last trip the input ring is at rest. -/
theorem ringX_end (k : ℕ) (hk : k = 10) : ringX c XA B A j k ⊢ ringX0 c XA B A j := by
  subst hk
  refine (Ring.free3_of_At_last _ _ _ _).trans (Entails.of_eq ?_)
  rw [ringX0, Ring.At₀, Ring.bigSep_fin3]

/-- After the last trip the last step's copy of the result is still in flight; -/
theorem ringO_end : ringO c RB C D j 10
    = iprop(bigSep (Ring.behindSet 1 10) (behindP c RB j) ∗ wfree (F := F) c C D (Ring.sl 2 10) ∗ wflight c RB C D j (Ring.sl 2 (10 + 1)) (Ring.bk 10 (10 - 1))) :=
  Ring.AtB21_end' _ _ _ _ 10 rfl (by decide)
/-- waited, it leaves the ring at rest. -/
theorem ringOE_eq : ringOE c RB C D j
    = iprop((behindP c RB j (Ring.bk 10 (10 - 1)) ∗ bigSep (Ring.behindSet 1 10) (behindP c RB j)) ∗ wfree (F := F) c C D (Ring.sl 2 10) ∗ wfree (F := F) c C D (Ring.sl 2 (10 + 1))) :=
  Ring.AtB21_epilogue' _ _ 10 rfl (by decide)

end Rings

section Body
variable (c : Dev nD) (XA : Buf (Elt F) ((Memref.whole main_arg0).view.loc (c : Thread nD τ)))
  (arg1 : Memref sig .tc .vmem S129x256 .f32) (harg1 : arg1.IsWhole) (arg2 : Memref sig .tc .vmem S1x256 .f32) (harg2 : arg2.IsWhole)
  (arg3 : Memref sig .tc .vmem S256x128 .f32) (harg3 : arg3.IsWhole) (arg4 : Memref sig .tc .vmem S1x128 .f32) (harg4 : arg4.IsWhole)
  (arg5 : Memref sig .tc .vmem S1x128 .f32) (harg5 : arg5.IsWhole)
  (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ)))

/-- One trip, whichever. -/
theorem trip (v17 v55 v62 v71 v80 v89 : BitVec 32) (v93 t83 : BitVec 1) (k : Trip) :
    resAt c XA arg1 arg2 arg3 arg4 arg5 g1 g2 g3 g4 g5 k.val
      ⊢ wp frame (wpE (defs₀ (F := F)) 𝒱₀ (c : Thread nD τ) none) Set.univ (tripG arg1 harg1 arg2 harg2 arg3 harg3 arg4 harg4 arg5 harg5 v17 v55 v62 v71 v80 v89 v93 t83 k)
        (fun acc => iprop(⌜acc = accAt (k.val + 1)⌝ ∗ resAt c XA arg1 arg2 arg3 arg4 arg5 g1 g2 g3 g4 g5 (k.val + 1))) := by
  by_cases h : k.val + 2 < 10
  · by_cases h1 : 1 ≤ k.val
    · exact trip_mid c XA arg1 harg1 arg2 harg2 arg3 harg3 arg4 harg4 arg5 harg5 g1 g2 g3 g4 g5 v17 v55 v62 v71 v80 v89 v93 t83 k h h1
    · exact trip_boot c XA arg1 harg1 arg2 harg2 arg3 harg3 arg4 harg4 arg5 harg5 g1 g2 g3 g4 g5 v17 v55 v62 v71 v80 v89 v93 t83 k h h1
  · exact trip_tail c XA arg1 harg1 arg2 harg2 arg3 harg3 arg4 harg4 arg5 harg5 g1 g2 g3 g4 g5 v17 v55 v62 v71 v80 v89 v93 t83 k h (by omega)

/-- The words one trip hands the next. -/
abbrev Acc := BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32

/-- The loop's invariant. -/
def inv (k : ℕ) (acc : Acc) : sProp 𝕄 := iprop(⌜acc = accAt k⌝ ∗ resAt c XA arg1 arg2 arg3 arg4 arg5 g1 g2 g3 g4 g5 k)

/-- The body on given weight windows, the rest its own. -/
abbrev bodyG : Prog (TpuEff nD τ sig (Elt F) Λ₀ .tc) PUnit :=
  cc0__outer (Memref.whole main_arg0) (Memref.isWhole_whole _) arg1 harg1 arg2 harg2 arg3 harg3 arg4 harg4 arg5 harg5
    (Memref.whole main_v0) (Memref.isWhole_whole _) bx0 (Memref.isWhole_whole _) sx0 bx1 (Memref.isWhole_whole _) sx1 bx2 (Memref.isWhole_whole _) sx2 bx3 (Memref.isWhole_whole _) sx3 bx4 (Memref.isWhole_whole _) sx4 bo0 (Memref.isWhole_whole _) so0 bo1 (Memref.isWhole_whole _) so1 bo2 (Memref.isWhole_whole _) so2 bo3 (Memref.isWhole_whole _) so3 bo4 (Memref.isWhole_whole _) so4

/-- What the body is handed: the weights, the rings at rest, nothing of the result written. -/
abbrev PRE (W : Waits sig Unit) : sProp 𝕄 :=
  iprop(winP c arg1 arg2 arg3 arg4 arg5 g1 g2 g3 g4 g5 ∗ owes (c : Thread nD τ) 0 W
    ∗ ringX0 c XA bx0 sx0 0 ∗ ringX0 c XA bx1 sx1 1 ∗ ringX0 c XA bx2 sx2 2 ∗ ringX0 c XA bx3 sx3 3 ∗ ringX0 c XA bx4 sx4 4
    ∗ ringO0 (F := F) c bo0 so0 0 ∗ ringO0 (F := F) c bo1 so1 1 ∗ ringO0 (F := F) c bo2 so2 2 ∗ ringO0 (F := F) c bo3 so3 3 ∗ ringO0 (F := F) c bo4 so4 4)
/-- What it hands back: the weights, the rings at rest, every row block of the result at its target. -/
abbrev POST : sProp 𝕄 :=
  iprop(winP c arg1 arg2 arg3 arg4 arg5 g1 g2 g3 g4 g5 ∗ (∃ W, owes (c : Thread nD τ) 0 W)
    ∗ ringX0 c XA bx0 sx0 0 ∗ ringX0 c XA bx1 sx1 1 ∗ ringX0 c XA bx2 sx2 2 ∗ ringX0 c XA bx3 sx3 3 ∗ ringX0 c XA bx4 sx4 4
    ∗ ringOE c (tgt c XA arg1 arg2 arg3 arg4 arg5 g1 g2 g3 g4 g5) bo0 so0 0 ∗ ringOE c (tgt c XA arg1 arg2 arg3 arg4 arg5 g1 g2 g3 g4 g5) bo1 so1 1 ∗ ringOE c (tgt c XA arg1 arg2 arg3 arg4 arg5 g1 g2 g3 g4 g5) bo2 so2 2 ∗ ringOE c (tgt c XA arg1 arg2 arg3 arg4 arg5 g1 g2 g3 g4 g5) bo3 so3 3 ∗ ringOE c (tgt c XA arg1 arg2 arg3 arg4 arg5 g1 g2 g3 g4 g5) bo4 so4 4)

/-- The body: the prologue's fetches, the loop by its invariant, the epilogue's waits. -/
theorem bodyRun (W : Waits sig Unit) :
    PRE c XA arg1 arg2 arg3 arg4 arg5 g1 g2 g3 g4 g5 W
      ⊢ wp frame (wpE (defs₀ (F := F)) 𝒱₀ (c : Thread nD τ) none) Set.univ (bodyG (F := F) arg1 harg1 arg2 harg2 arg3 harg3 arg4 harg4 arg5 harg5)
        (fun _ => POST c XA arg1 arg2 arg3 arg4 arg5 g1 g2 g3 g4 g5) := by
  obtain ⟨c1, c2, c3, c4, c5⟩ := pro_cond
  obtain ⟨e12, e13, e14, e15, e16, e17⟩ := chk_epi
  dsimp only [PRE]
  rw [ringX0_open, ringX0_open, ringX0_open, ringX0_open, ringX0_open]
  iintro ⟨⟨H1, H2, H3, H4, H5⟩, HW, ⟨⟨Ha0, Hb0, Hc0, Hr0⟩, ⟨Hd0, ⟨%f0, Hs0⟩⟩, ⟨He0, ⟨%u0, Ht0⟩⟩, Hf0⟩, ⟨⟨Ha1, Hb1, Hc1, Hr1⟩, ⟨Hd1, ⟨%f1, Hs1⟩⟩, ⟨He1, ⟨%u1, Ht1⟩⟩, Hf1⟩, ⟨⟨Ha2, Hb2, Hc2, Hr2⟩, ⟨Hd2, ⟨%f2, Hs2⟩⟩, ⟨He2, ⟨%u2, Ht2⟩⟩, Hf2⟩, ⟨⟨Ha3, Hb3, Hc3, Hr3⟩, ⟨Hd3, ⟨%f3, Hs3⟩⟩, ⟨He3, ⟨%u3, Ht3⟩⟩, Hf3⟩, ⟨⟨Ha4, Hb4, Hc4, Hr4⟩, ⟨Hd4, ⟨%f4, Hs4⟩⟩, ⟨He4, ⟨%u4, Ht4⟩⟩, Hf4⟩, Ho0, Ho1, Ho2, Ho3, Ho4⟩
  sl_exec
  sl_for (inv c XA arg1 arg2 arg3 arg4 arg5 g1 g2 g3 g4 g5) $$ [H1 H2 H3 H4 H5 HW Hc0 Hr0 Hd0 He0 Hf0 Ho0 Hc1 Hr1 Hd1 He1 Hf1 Ho1 Hc2 Hr2 Hd2 He2 Hf2 Ho2 Hc3 Hr3 Hd3 He3 Hf3 Ho3 Hc4 Hr4 Hd4 He4 Hf4 Ho4]
  case region =>
    intro k acc
    unfold inv
    iintro ⟨%e, H⟩
    subst e
    iapply (trip c XA arg1 harg1 arg2 harg2 arg3 harg3 arg4 harg4 arg5 harg5 g1 g2 g3 g4 g5)
    iexact H
  · unfold inv
    isplitr
    · ipureintro; rfl
    unfold resAt
    simp only [ringX_start, ringO, Ring.AtB_zero]
    isplitl [H1 H2 H3 H4 H5]
    · isplitl [H1]; · iexact H1
      isplitl [H2]; · iexact H2
      isplitl [H3]; · iexact H3
      isplitl [H4]; · iexact H4
      iexact H5
    isplitl [HW]; · iexists _; iexact HW
    isplitl [Hc0 Hr0 Hd0 He0 Hf0]
    · isplitl [Hc0 Hr0]
      · isplitl [Hc0]; · iexact Hc0
        iexact Hr0
      isplitl [Hd0]; · iexists f0; iexact Hd0
      isplitl [He0]; · iexists u0; iexact He0
      iexact Hf0
    isplitl [Hc1 Hr1 Hd1 He1 Hf1]
    · isplitl [Hc1 Hr1]
      · isplitl [Hc1]; · iexact Hc1
        iexact Hr1
      isplitl [Hd1]; · iexists f1; iexact Hd1
      isplitl [He1]; · iexists u1; iexact He1
      iexact Hf1
    isplitl [Hc2 Hr2 Hd2 He2 Hf2]
    · isplitl [Hc2 Hr2]
      · isplitl [Hc2]; · iexact Hc2
        iexact Hr2
      isplitl [Hd2]; · iexists f2; iexact Hd2
      isplitl [He2]; · iexists u2; iexact He2
      iexact Hf2
    isplitl [Hc3 Hr3 Hd3 He3 Hf3]
    · isplitl [Hc3 Hr3]
      · isplitl [Hc3]; · iexact Hc3
        iexact Hr3
      isplitl [Hd3]; · iexists f3; iexact Hd3
      isplitl [He3]; · iexists u3; iexact He3
      iexact Hf3
    isplitl [Hc4 Hr4 Hd4 He4 Hf4]
    · isplitl [Hc4 Hr4]
      · isplitl [Hc4]; · iexact Hc4
        iexact Hr4
      isplitl [Hd4]; · iexists f4; iexact Hd4
      isplitl [He4]; · iexists u4; iexact He4
      iexact Hf4
    isplitl [Ho0]; · iexact Ho0
    isplitl [Ho1]; · iexact Ho1
    isplitl [Ho2]; · iexact Ho2
    isplitl [Ho3]; · iexact Ho3
    iexact Ho4
  rw [show Scf.trips k0_t1_loop.lb k0_t1_loop.ub k0_t1_loop.st = 10 from trips_eq]
  dsimp only [inv, resAt]
  rw [ringO_end, ringO_end, ringO_end, ringO_end, ringO_end]
  iintro %acc HI
  icases HI with ⟨%e, HP, ⟨%W', HW⟩, X0, X1, X2, X3, X4, ⟨Hb0, Hd0, ⟨%p0, %q0, HI0, %ok0⟩⟩, ⟨Hb1, Hd1, ⟨%p1, %q1, HI1, %ok1⟩⟩, ⟨Hb2, Hd2, ⟨%p2, %q2, HI2, %ok2⟩⟩, ⟨Hb3, Hd3, ⟨%p3, %q3, HI3, %ok3⟩⟩, ⟨Hb4, Hd4, ⟨%p4, %q4, HI4, %ok4⟩⟩⟩
  subst e
  sl_exec
  sl_step
  isplitl [HP]; · iexact HP
  isplitl [HW]; · iexists _; iexact HW
  isplitl [X0]; · iapply (ringX_end c XA bx0 sx0 0 10 rfl); iexact X0
  isplitl [X1]; · iapply (ringX_end c XA bx1 sx1 1 10 rfl); iexact X1
  isplitl [X2]; · iapply (ringX_end c XA bx2 sx2 2 10 rfl); iexact X2
  isplitl [X3]; · iapply (ringX_end c XA bx3 sx3 3 10 rfl); iexact X3
  isplitl [X4]; · iapply (ringX_end c XA bx4 sx4 4 10 rfl); iexact X4
  irw [ringOE_eq, ringOE_eq, ringOE_eq, ringOE_eq, ringOE_eq]
  isplitl [Hb0 Hd0 HI0 HI0_dst HI0_src]
  · isplitl [HI0_dst Hb0]
    · isplitl [HI0_dst]
      · iexists p0
        isplitl [HI0_dst]; · iexact HI0_dst
        ipureintro; exact ok0
      iexact Hb0
    isplitl [Hd0]; · iexact Hd0
    isplitl [HI0]; · iexact HI0
    iexists _; iexact HI0_src
  isplitl [Hb1 Hd1 HI1 HI1_dst HI1_src]
  · isplitl [HI1_dst Hb1]
    · isplitl [HI1_dst]
      · iexists p1
        isplitl [HI1_dst]; · iexact HI1_dst
        ipureintro; exact ok1
      iexact Hb1
    isplitl [Hd1]; · iexact Hd1
    isplitl [HI1]; · iexact HI1
    iexists _; iexact HI1_src
  isplitl [Hb2 Hd2 HI2 HI2_dst HI2_src]
  · isplitl [HI2_dst Hb2]
    · isplitl [HI2_dst]
      · iexists p2
        isplitl [HI2_dst]; · iexact HI2_dst
        ipureintro; exact ok2
      iexact Hb2
    isplitl [Hd2]; · iexact Hd2
    isplitl [HI2]; · iexact HI2
    iexists _; iexact HI2_src
  isplitl [Hb3 Hd3 HI3 HI3_dst HI3_src]
  · isplitl [HI3_dst Hb3]
    · isplitl [HI3_dst]
      · iexists p3
        isplitl [HI3_dst]; · iexact HI3_dst
        ipureintro; exact ok3
      iexact Hb3
    isplitl [Hd3]; · iexact Hd3
    isplitl [HI3]; · iexact HI3
    iexists _; iexact HI3_src
  isplitl [HI4_dst Hb4]
  · isplitl [HI4_dst]
    · iexists p4
      isplitl [HI4_dst]; · iexact HI4_dst
      ipureintro; exact ok4
    iexact Hb4
  isplitl [Hd4]; · iexact Hd4
  isplitl [HI4]; · iexact HI4
  iexists _; iexact HI4_src

end Body

end Cert.Proof.KernelIdeal

end
-- ==== Proof.Split.lean ====
module

public import proofs.«01_k».proof.Proof.Body

/-! # Buffers as the rings hold them

`x` and the result are fifty blocks of two thousand rows, block `5 i + j` being step `i` of window `j`; an input
window's buffer is three slots and a result window's is two. This module splits and joins them. -/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## Row blocks -/

/-- A row block's elements, of `x`; of the result. -/
abbrev xset (p : Fin 5 × Fin 10) : Finset S100000x129.Idx :=
  (Rect.unit (s := S100000x129) (rowOff p.1 p.2) S2000x129.size (xOff_inb p.1 p.2)).set
abbrev oset (p : Fin 5 × Fin 10) : Finset S100000x128.Idx :=
  (Rect.unit (s := S100000x128) (rowOff p.1 p.2) S2000x128.size (oOff_inb p.1 p.2)).set

theorem xblk_set (j : Fin 5) (i : Fin 10) : (xblk j i).view.set = xset (j, i) := View.set_slice_whole _ _
theorem oblk_set (j : Fin 5) (i : Fin 10) : (oblk j i).view.set = oset (j, i) := View.set_slice_whole _ _

/-- A row is in the block its number divided by two thousand names. -/
theorem mem_xset (p : Fin 5 × Fin 10) (y : S100000x129.Idx) : y ∈ xset p ↔ (y 0).val / 2000 = 5 * p.2.val + p.1.val := by
  rw [Rect.mem_set_unit]
  have h1 : (y 1).val < 129 := (y 1).isLt
  constructor
  · intro H; have a0 : 2000 * (5 * p.2.val + p.1.val) ≤ (y 0).val ∧ (y 0).val < 2000 * (5 * p.2.val + p.1.val) + 2000 := H 0; omega
  · intro H i; fin_cases i
    · show 2000 * (5 * p.2.val + p.1.val) ≤ (y 0).val ∧ (y 0).val < 2000 * (5 * p.2.val + p.1.val) + 2000; omega
    · show 0 ≤ (y 1).val ∧ (y 1).val < 0 + 129; omega
theorem mem_oset (p : Fin 5 × Fin 10) (y : S100000x128.Idx) : y ∈ oset p ↔ (y 0).val / 2000 = 5 * p.2.val + p.1.val := by
  rw [Rect.mem_set_unit]
  have h1 : (y 1).val < 128 := (y 1).isLt
  constructor
  · intro H; have a0 : 2000 * (5 * p.2.val + p.1.val) ≤ (y 0).val ∧ (y 0).val < 2000 * (5 * p.2.val + p.1.val) + 2000 := H 0; omega
  · intro H i; fin_cases i
    · show 2000 * (5 * p.2.val + p.1.val) ≤ (y 0).val ∧ (y 0).val < 2000 * (5 * p.2.val + p.1.val) + 2000; omega
    · show 0 ≤ (y 1).val ∧ (y 1).val < 0 + 128; omega

/-- Two blocks of one number are one block; every row number has a block. -/
theorem block_inj (p q : Fin 5 × Fin 10) (h : 5 * p.2.val + p.1.val = 5 * q.2.val + q.1.val) : p = q := by
  have := p.1.isLt; have := q.1.isLt
  exact Prod.ext (Fin.ext (by omega)) (Fin.ext (by omega))
theorem block_of (r : ℕ) (h : r < 100000) : ∃ p : Fin 5 × Fin 10, r / 2000 = 5 * p.2.val + p.1.val :=
  ⟨(⟨r / 2000 % 5, by omega⟩, ⟨r / 2000 / 5, by omega⟩), by show r / 2000 = 5 * (r / 2000 / 5) + r / 2000 % 5; omega⟩

theorem xset_disjoint (p q : Fin 5 × Fin 10) (h : p ≠ q) : Disjoint (xset p) (xset q) := by
  rw [Finset.disjoint_left]; intro y hy hy'; rw [mem_xset] at hy hy'; exact h (block_inj p q (hy.symm.trans hy'))
theorem oset_disjoint (p q : Fin 5 × Fin 10) (h : p ≠ q) : Disjoint (oset p) (oset q) := by
  rw [Finset.disjoint_left]; intro y hy hy'; rw [mem_oset] at hy hy'; exact h (block_inj p q (hy.symm.trans hy'))
theorem xset_cover : (Finset.univ : Finset (Fin 5 × Fin 10)).biUnion xset = Finset.univ := by
  ext y; simp only [Finset.mem_biUnion, Finset.mem_univ, true_and, iff_true]
  obtain ⟨p, hp⟩ := block_of (y 0).val (y 0).isLt
  exact ⟨p, (mem_xset p y).mpr hp⟩
theorem oset_cover : (Finset.univ : Finset (Fin 5 × Fin 10)).biUnion oset = Finset.univ := by
  ext y; simp only [Finset.mem_biUnion, Finset.mem_univ, true_and, iff_true]
  obtain ⟨p, hp⟩ := block_of (y 0).val (y 0).isLt
  exact ⟨p, (mem_oset p y).mpr hp⟩

section Launch
variable (c : Dev nD)

/-- `x` whole is its row blocks at home, window by window. -/
theorem x_eq (XA : Buf (Elt F) ((c : Thread nD τ).loc main_arg0)) :
    (((c : Thread nD τ).loc main_arg0) ↦{fullShare} XA : sProp 𝕄)
      = bigSep Finset.univ (fun j => bigSep Finset.univ (homeP c XA j)) := by
  rw [Ring.pointsTo_blocks (ℓ := (c : Thread nD τ).loc main_arg0) xset xset_disjoint xset_cover, bigSep_univ_prod]
  exact bigSep_congr fun j _ => bigSep_congr fun i _ => by rw [← xblk_set]; rfl

/-- A row block of the result as a part of its buffer. -/
theorem oblkP_eq (j : Fin 5) (i : Fin 10) (f : Buf (Elt F) ((c : Thread nD τ).loc main_v0)) :
    oblkP (F := F) c j i f = (((c : Thread nD τ).loc main_v0) ↦[oset (j, i)]{fullShare} f : sProp 𝕄) :=
  congrArg (fun S => (((c : Thread nD τ).loc main_v0) ↦[S]{fullShare} f : sProp 𝕄)) (oblk_set j i)

/-- The result whole at anything is its row blocks, each at anything. -/
theorem out_split :
    iprop(∃ f : Buf (Elt F) ((c : Thread nD τ).loc main_v0), ((c : Thread nD τ).loc main_v0) ↦{fullShare} f)
      ⊢ (bigSep Finset.univ (fun j => bigSep Finset.univ (aheadP (F := F) c j)) : sProp 𝕄) := by
  refine (Ring.pieces_split (ℓ := (c : Thread nD τ).loc main_v0) oset oset_disjoint oset_cover
    (fun p f => oblkP (F := F) c p.1 p.2 f) (fun p f => oblkP_eq c p.1 p.2 f)).trans (Entails.of_eq (bigSep_univ_prod _))

/-- The result's row blocks, each holding its part, are the result whole at contents that hold every part. -/
theorem out_join (RB : Fin 5 → Fin 10 → S2000x128.Idx → Elt F .f32) :
    bigSep Finset.univ (fun j => bigSep Finset.univ (behindP c RB j))
      ⊢ (iprop(∃ g : Buf (Elt F) ((c : Thread nD τ).loc main_v0), ⌜∀ j i, Good c RB j i g⌝ ∗ ((c : Thread nD τ).loc main_v0) ↦{fullShare} g) : sProp 𝕄) := by
  have : Nonempty (Buf (Elt F) ((c : Thread nD τ).loc main_v0)) := ⟨(Memref.whole main_v0).view.junk⟩
  rw [← bigSep_univ_prod (fun p : Fin 5 × Fin 10 => behindP c RB p.1 p.2)]
  have h1 : bigSep Finset.univ (fun p : Fin 5 × Fin 10 => behindP c RB p.1 p.2)
      ⊢ (bigSep Finset.univ (fun p : Fin 5 × Fin 10 => iprop(∃ f : Buf (Elt F) ((c : Thread nD τ).loc main_v0),
          ⌜Good c RB p.1 p.2 f⌝ ∗ ((c : Thread nD τ).loc main_v0) ↦[oset p]{fullShare} f)) : sProp 𝕄) :=
    bigSep_mono fun p _ => show behindP c RB p.1 p.2 ⊢ iprop(∃ f : Buf (Elt F) ((c : Thread nD τ).loc main_v0),
          ⌜Good c RB p.1 p.2 f⌝ ∗ ((c : Thread nD τ).loc main_v0) ↦[oset p]{fullShare} f) from by
      iintro ⟨%f, H, %h⟩
      iexists f
      isplitr; · ipureintro; exact h
      iapply (Entails.of_eq (oblkP_eq c p.1 p.2 f)); iexact H
  refine h1.trans ((Idealize.SL.BI.bigSep_exists_pi _ _).trans ?_)
  iintro ⟨%fs, H⟩
  ihave H' := (Idealize.SL.BI.bigSep_pure_sep _ _ _) $$ H
  icases H' with ⟨%hG, H⟩
  ihave HJ := (pointsTo_biUnion_join Finset.univ oset fs (Memref.whole main_v0).view.junk (fun p _ q _ h => oset_disjoint p q h)) $$ H
  icases HJ with ⟨%g, %hg, H⟩
  iexists g
  isplitr
  · ipureintro
    intro j i
    refine (View.read_congr fun y hy => hg (j, i) (Finset.mem_univ _) y ?_).trans (hG (j, i) (Finset.mem_univ _))
    rw [← oblk_set]; exact hy
  iapply (Entails.of_eq (congrArg (fun S => (((c : Thread nD τ).loc main_v0) ↦[S]{fullShare} g : sProp 𝕄)) oset_cover)); iexact H

/-! ## Slots -/

section Slots
variable (B : Memref sig .tc .vmem S3x2000x129 .f32) (A : DmaSems sig S3)
  (C : Memref sig .tc .vmem S2x2000x128 .f32) (D : DmaSems sig S2) (j : Fin 5)

/-- A slot's elements among its buffer's, of three; of two. -/
def rset (s : Fin 3) : Finset B.view.ty.Idx :=
  (Rect.unit (s := S3x2000x129) (slot3Off s) S1x2000x129.size (slot3Off_inb s)).set.map B.view.emb
theorem slotP_eq (s : Fin 3) (f : Buf (Elt F) (B.view.loc (c : Thread nD τ))) :
    slotP (F := F) c B s f = (B.view.loc (c : Thread nD τ) ↦[rset B s]{fullShare} f : sProp 𝕄) :=
  congrArg (fun S => (B.view.loc (c : Thread nD τ) ↦[S]{fullShare} f : sProp 𝕄)) ((View.set_reshape _ _).trans (View.set_slice _ _))
theorem rset_disjoint (s s' : Fin 3) (h : s ≠ s') : Disjoint (rset B s) (rset B s') :=
  (Finset.disjoint_map _).mpr (Ring.lead_disjoint (NB := 3) (s := S3x2000x129) 0 1 slot3Off S1x2000x129.size slot3Off_inb (by decide) (by decide) s s' h)
theorem rset_cover (hB : B.view.set = Finset.univ) : (Finset.univ : Finset (Fin 3)).biUnion (rset B) = Finset.univ := by
  have hc := Ring.lead_cover (NB := 3) (s := S3x2000x129) 0 1 slot3Off S1x2000x129.size slot3Off_inb (by decide) (by decide) (by decide) (by decide) (by decide)
  ext y
  simp only [Finset.mem_biUnion, Finset.mem_univ, true_and, iff_true]
  have hy : y ∈ B.view.set := by rw [hB]; exact Finset.mem_univ _
  obtain ⟨x, -, rfl⟩ := Finset.mem_map.mp hy
  have hx := Finset.mem_univ x
  rw [← hc] at hx
  obtain ⟨s, -, hs⟩ := Finset.mem_biUnion.mp hx
  exact ⟨s, Finset.mem_map_of_mem _ hs⟩
def wset (s : Fin 2) : Finset C.view.ty.Idx :=
  (Rect.unit (s := S2x2000x128) (slot2Off s) S1x2000x128.size (slot2Off_inb s)).set.map C.view.emb
theorem wslotP_eq (s : Fin 2) (f : Buf (Elt F) (C.view.loc (c : Thread nD τ))) :
    wslotP (F := F) c C s f = (C.view.loc (c : Thread nD τ) ↦[wset C s]{fullShare} f : sProp 𝕄) :=
  congrArg (fun S => (C.view.loc (c : Thread nD τ) ↦[S]{fullShare} f : sProp 𝕄)) ((View.set_reshape _ _).trans (View.set_slice _ _))
theorem wset_disjoint (s s' : Fin 2) (h : s ≠ s') : Disjoint (wset C s) (wset C s') :=
  (Finset.disjoint_map _).mpr (Ring.lead_disjoint (NB := 2) (s := S2x2000x128) 0 1 slot2Off S1x2000x128.size slot2Off_inb (by decide) (by decide) s s' h)
theorem wset_cover (hC : C.view.set = Finset.univ) : (Finset.univ : Finset (Fin 2)).biUnion (wset C) = Finset.univ := by
  have hc := Ring.lead_cover (NB := 2) (s := S2x2000x128) 0 1 slot2Off S1x2000x128.size slot2Off_inb (by decide) (by decide) (by decide) (by decide) (by decide)
  ext y
  simp only [Finset.mem_biUnion, Finset.mem_univ, true_and, iff_true]
  have hy : y ∈ C.view.set := by rw [hC]; exact Finset.mem_univ _
  obtain ⟨x, -, rfl⟩ := Finset.mem_map.mp hy
  have hx := Finset.mem_univ x
  rw [← hc] at hx
  obtain ⟨s, -, hs⟩ := Finset.mem_biUnion.mp hx
  exact ⟨s, Finset.mem_map_of_mem _ hs⟩

/-- A window's buffer, whole at anything. -/
abbrev xbufP : sProp 𝕄 := iprop(∃ f : Buf (Elt F) (B.view.loc (c : Thread nD τ)), B.view.loc (c : Thread nD τ) ↦{fullShare} f)
abbrev obufP : sProp 𝕄 := iprop(∃ f : Buf (Elt F) (C.view.loc (c : Thread nD τ)), C.view.loc (c : Thread nD τ) ↦{fullShare} f)

/-- An input ring at rest is its row blocks at home, its semaphores at zero and its buffer; -/
theorem ringX_in (XA : Buf (Elt F) ((Memref.whole main_arg0).view.loc (c : Thread nD τ))) (hB : B.view.set = Finset.univ) :
    iprop(bigSep Finset.univ (homeP c XA j) ∗ bigSep Finset.univ (cellP (F := F) c A) ∗ xbufP (F := F) c B) ⊢ ringX0 c XA B A j := by
  rw [ringX0, Ring.At₀, bigSep_sep']
  iintro ⟨HH, HC, HS⟩
  isplitl [HH]; · iexact HH
  isplitl [HC]; · iexact HC
  iapply (Ring.pieces_split (ℓ := B.view.loc (c : Thread nD τ)) (rset B) (rset_disjoint B) (rset_cover B hB)
    (slotP (F := F) c B) (slotP_eq c B)); iexact HS
/-- and back. -/
theorem ringX_out (XA : Buf (Elt F) ((Memref.whole main_arg0).view.loc (c : Thread nD τ))) (hB : B.view.set = Finset.univ) :
    ringX0 c XA B A j ⊢ iprop(bigSep Finset.univ (homeP c XA j) ∗ bigSep Finset.univ (cellP (F := F) c A) ∗ xbufP (F := F) c B) := by
  rw [ringX0, Ring.At₀, bigSep_sep']
  iintro ⟨HH, HC, HS⟩
  isplitl [HH]; · iexact HH
  isplitl [HC]; · iexact HC
  iapply (Ring.pieces_join (ℓ := B.view.loc (c : Thread nD τ)) (rset B) (rset_disjoint B) (rset_cover B hB)
    (slotP (F := F) c B) (slotP_eq c B) B.view.junk); iexact HS

/-- A result ring at rest likewise, nothing written; -/
theorem ringO_in (hC : C.view.set = Finset.univ) :
    iprop(bigSep Finset.univ (aheadP (F := F) c j) ∗ bigSep Finset.univ (wcellP (F := F) c D) ∗ obufP (F := F) c C) ⊢ ringO0 (F := F) c C D j := by
  rw [ringO0, Ring.AtB₀, bigSep_sep']
  iintro ⟨HH, HC, HS⟩
  isplitl [HH]; · iexact HH
  isplitl [HC]; · iexact HC
  iapply (Ring.pieces_split (ℓ := C.view.loc (c : Thread nD τ)) (wset C) (wset_disjoint C) (wset_cover C hC)
    (wslotP (F := F) c C) (wslotP_eq c C)); iexact HS
/-- and back, everything written. -/
theorem ringO_out (RB : Fin 5 → Fin 10 → S2000x128.Idx → Elt F .f32) (hC : C.view.set = Finset.univ) :
    ringOE c RB C D j ⊢ iprop(bigSep Finset.univ (behindP c RB j) ∗ bigSep Finset.univ (wcellP (F := F) c D) ∗ obufP (F := F) c C) := by
  rw [ringOE, Ring.AtBEnd, bigSep_sep']
  iintro ⟨HH, HC, HS⟩
  isplitl [HH]; · iexact HH
  isplitl [HC]; · iexact HC
  iapply (Ring.pieces_join (ℓ := C.view.loc (c : Thread nD τ)) (wset C) (wset_disjoint C) (wset_cover C hC)
    (wslotP (F := F) c C) (wslotP_eq c C) C.view.junk); iexact HS

end Slots

end Launch

end Cert.Proof.KernelIdeal

end
-- ==== Proof.Launch.lean ====
module

public import proofs.«01_k».proof.Proof.Split

/-! # The kernel's launch

The host operations build the weights, the region fetches them, the body runs the pipeline: every row block of the
result ends holding its part, every argument is as it was, every semaphore is at zero. -/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

/-- Where the launch's part of the algebra sits. -/
abbrev EP : Emb (UR sig nD τ) (MT nD τ sig Unit (Elt F) ℕ (UU nD τ) ℕ) := embL

variable (m : (ℓ : Loc nD τ sig) → Buf (Elt F) ℓ) (ρ : Dev nD → PrngReg)

/-! ## The kernel's own semaphores -/

abbrev sxs : Fin 5 → DmaSems sig S3 := ![sx0, sx1, sx2, sx3, sx4]
abbrev sos : Fin 5 → DmaSems sig S2 := ![so0, so1, so2, so3, so4]
/-- Three for each input window, two for each result window. -/
abbrev osem : (Fin 5 × Fin 3) ⊕ (Fin 5 × Fin 2) → SemLoc sig
  | .inl p => .dma (rsem (sxs p.1) p.2).sem
  | .inr p => .dma (wsem (sos p.1) p.2).sem
theorem ownSemFacts : Pipeline.OwnSemFacts spec0 osem := by decide

/-- At rest, window by window. -/
theorem ownSems0_eq (c : Dev nD) : (Pipeline.ownSems0 (Ix := Unit) (Name := ℕ) (U := UU nD τ) (Lvl := ℕ) (Val := Elt F) (τ := τ) osem c : sProp 𝕄)
    = iprop((bigSep Finset.univ (cellP (F := F) c sx0) ∗ bigSep Finset.univ (cellP (F := F) c sx1) ∗ bigSep Finset.univ (cellP (F := F) c sx2) ∗ bigSep Finset.univ (cellP (F := F) c sx3) ∗ bigSep Finset.univ (cellP (F := F) c sx4))
      ∗ bigSep Finset.univ (wcellP (F := F) c so0) ∗ bigSep Finset.univ (wcellP (F := F) c so1) ∗ bigSep Finset.univ (wcellP (F := F) c so2) ∗ bigSep Finset.univ (wcellP (F := F) c so3) ∗ bigSep Finset.univ (wcellP (F := F) c so4)) := by
  unfold Pipeline.ownSems0
  rw [Idealize.SL.BI.bigSep_univ_sum, bigSep_univ_prod, bigSep_univ_prod, bigSep_W0, bigSep_W0]
  rfl

/-! ## What the region holds -/

/-- The contents `x` is launched with. -/
abbrev XA (c : Dev nD) : Buf (Elt F) ((Memref.whole main_arg0).view.loc (c : Thread nD τ)) := V m c main_arg0

/-- What each row block of the result is to hold. -/
abbrev RB (c : Dev nD) (t : Fin cfg0.N) : Fin 5 → Fin 10 → S2000x128.Idx → Elt F .f32 :=
  tgt c (XA m c) (st0_0 t) (st0_1 t) (st0_2 t) (st0_3 t) (st0_4 t)
    ((st0_0 t).view.rep (iblk m c 0 t)) ((st0_1 t).view.rep (iblk m c 1 t)) ((st0_2 t).view.rep (iblk m c 2 t))
    ((st0_3 t).view.rep (iblk m c 3 t)) ((st0_4 t).view.rep (iblk m c 4 t))

/-- The rings before the body; after it. -/
abbrev ringsA (c : Dev nD) : sProp 𝕄 :=
  iprop(ringX0 c (XA m c) bx0 sx0 0 ∗ ringX0 c (XA m c) bx1 sx1 1 ∗ ringX0 c (XA m c) bx2 sx2 2 ∗ ringX0 c (XA m c) bx3 sx3 3 ∗ ringX0 c (XA m c) bx4 sx4 4 ∗ ringO0 (F := F) c bo0 so0 0 ∗ ringO0 (F := F) c bo1 so1 1 ∗ ringO0 (F := F) c bo2 so2 2 ∗ ringO0 (F := F) c bo3 so3 3 ∗ ringO0 (F := F) c bo4 so4 4)
abbrev ringsB (c : Dev nD) : sProp 𝕄 :=
  iprop(ringX0 c (XA m c) bx0 sx0 0 ∗ ringX0 c (XA m c) bx1 sx1 1 ∗ ringX0 c (XA m c) bx2 sx2 2 ∗ ringX0 c (XA m c) bx3 sx3 3 ∗ ringX0 c (XA m c) bx4 sx4 4 ∗ ringOE c (RB m c t0_0) bo0 so0 0 ∗ ringOE c (RB m c t0_0) bo1 so1 1 ∗ ringOE c (RB m c t0_0) bo2 so2 2 ∗ ringOE c (RB m c t0_0) bo3 so3 3 ∗ ringOE c (RB m c t0_0) bo4 so4 4)

/-- The blocks, the semaphores and the buffers make the rings; -/
theorem rings_in (c : Dev nD) :
    iprop(bigSep Finset.univ (fun j => bigSep Finset.univ (homeP c (XA m c) j)) ∗ bigSep Finset.univ (fun j => bigSep Finset.univ (aheadP (F := F) c j))
      ∗ Pipeline.ownSems0 (Ix := Unit) (Name := ℕ) (U := UU nD τ) (Lvl := ℕ) (Val := Elt F) (τ := τ) osem c ∗ Pipeline.scopedRest spec0 c) ⊢ ringsA m c := by
  rw [ownSems0_eq, scopedRest0_eq, bigSep_W0, bigSep_W0]
  iintro ⟨⟨H0, H1, H2, H3, H4⟩, ⟨A0, A1, A2, A3, A4⟩, ⟨⟨C0, C1, C2, C3, C4⟩, D0, D1, D2, D3, D4⟩, B0, B1, B2, B3, B4, E0, E1, E2, E3, E4⟩
  isplitl [H0 C0 B0]
  · iapply (ringX_in c bx0 sx0 0 (XA m c) (View.set_whole _))
    isplitl [H0]; · iexact H0
    isplitl [C0]; · iexact C0
    iexact B0
  isplitl [H1 C1 B1]
  · iapply (ringX_in c bx1 sx1 1 (XA m c) (View.set_whole _))
    isplitl [H1]; · iexact H1
    isplitl [C1]; · iexact C1
    iexact B1
  isplitl [H2 C2 B2]
  · iapply (ringX_in c bx2 sx2 2 (XA m c) (View.set_whole _))
    isplitl [H2]; · iexact H2
    isplitl [C2]; · iexact C2
    iexact B2
  isplitl [H3 C3 B3]
  · iapply (ringX_in c bx3 sx3 3 (XA m c) (View.set_whole _))
    isplitl [H3]; · iexact H3
    isplitl [C3]; · iexact C3
    iexact B3
  isplitl [H4 C4 B4]
  · iapply (ringX_in c bx4 sx4 4 (XA m c) (View.set_whole _))
    isplitl [H4]; · iexact H4
    isplitl [C4]; · iexact C4
    iexact B4
  isplitl [A0 D0 E0]
  · iapply (ringO_in c bo0 so0 0 (View.set_whole _))
    isplitl [A0]; · iexact A0
    isplitl [D0]; · iexact D0
    iexact E0
  isplitl [A1 D1 E1]
  · iapply (ringO_in c bo1 so1 1 (View.set_whole _))
    isplitl [A1]; · iexact A1
    isplitl [D1]; · iexact D1
    iexact E1
  isplitl [A2 D2 E2]
  · iapply (ringO_in c bo2 so2 2 (View.set_whole _))
    isplitl [A2]; · iexact A2
    isplitl [D2]; · iexact D2
    iexact E2
  isplitl [A3 D3 E3]
  · iapply (ringO_in c bo3 so3 3 (View.set_whole _))
    isplitl [A3]; · iexact A3
    isplitl [D3]; · iexact D3
    iexact E3
  iapply (ringO_in c bo4 so4 4 (View.set_whole _))
  isplitl [A4]; · iexact A4
  isplitl [D4]; · iexact D4
  iexact E4

/-- and the rings give them back. -/
theorem rings_out (c : Dev nD) :
    ringsB m c ⊢ iprop(bigSep Finset.univ (fun j => bigSep Finset.univ (homeP c (XA m c) j)) ∗ bigSep Finset.univ (fun j => bigSep Finset.univ (behindP c (RB m c t0_0) j))
      ∗ Pipeline.ownSems0 (Ix := Unit) (Name := ℕ) (U := UU nD τ) (Lvl := ℕ) (Val := Elt F) (τ := τ) osem c ∗ Pipeline.scopedRest spec0 c) := by
  rw [ownSems0_eq, scopedRest0_eq, bigSep_W0, bigSep_W0]
  iintro ⟨X0, X1, X2, X3, X4, O0, O1, O2, O3, O4⟩
  ihave X0' := (ringX_out c bx0 sx0 0 (XA m c) (View.set_whole _)) $$ X0
  icases X0' with ⟨H0, C0, B0⟩
  ihave O0' := (ringO_out c bo0 so0 0 (RB m c t0_0) (View.set_whole _)) $$ O0
  icases O0' with ⟨A0, D0, E0⟩
  ihave X1' := (ringX_out c bx1 sx1 1 (XA m c) (View.set_whole _)) $$ X1
  icases X1' with ⟨H1, C1, B1⟩
  ihave O1' := (ringO_out c bo1 so1 1 (RB m c t0_0) (View.set_whole _)) $$ O1
  icases O1' with ⟨A1, D1, E1⟩
  ihave X2' := (ringX_out c bx2 sx2 2 (XA m c) (View.set_whole _)) $$ X2
  icases X2' with ⟨H2, C2, B2⟩
  ihave O2' := (ringO_out c bo2 so2 2 (RB m c t0_0) (View.set_whole _)) $$ O2
  icases O2' with ⟨A2, D2, E2⟩
  ihave X3' := (ringX_out c bx3 sx3 3 (XA m c) (View.set_whole _)) $$ X3
  icases X3' with ⟨H3, C3, B3⟩
  ihave O3' := (ringO_out c bo3 so3 3 (RB m c t0_0) (View.set_whole _)) $$ O3
  icases O3' with ⟨A3, D3, E3⟩
  ihave X4' := (ringX_out c bx4 sx4 4 (XA m c) (View.set_whole _)) $$ X4
  icases X4' with ⟨H4, C4, B4⟩
  ihave O4' := (ringO_out c bo4 so4 4 (RB m c t0_0) (View.set_whole _)) $$ O4
  icases O4' with ⟨A4, D4, E4⟩
  isplitl [H0 H1 H2 H3 H4]
  · isplitl [H0]; · iexact H0
    isplitl [H1]; · iexact H1
    isplitl [H2]; · iexact H2
    isplitl [H3]; · iexact H3
    iexact H4
  isplitl [A0 A1 A2 A3 A4]
  · isplitl [A0]; · iexact A0
    isplitl [A1]; · iexact A1
    isplitl [A2]; · iexact A2
    isplitl [A3]; · iexact A3
    iexact A4
  isplitl [C0 C1 C2 C3 C4 D0 D1 D2 D3 D4]
  · isplitl [C0 C1 C2 C3 C4]
    · isplitl [C0]; · iexact C0
      isplitl [C1]; · iexact C1
      isplitl [C2]; · iexact C2
      isplitl [C3]; · iexact C3
      iexact C4
    isplitl [D0]; · iexact D0
    isplitl [D1]; · iexact D1
    isplitl [D2]; · iexact D2
    isplitl [D3]; · iexact D3
    iexact D4
  isplitl [B0]; · iexact B0
  isplitl [B1]; · iexact B1
  isplitl [B2]; · iexact B2
  isplitl [B3]; · iexact B3
  isplitl [B4]; · iexact B4
  isplitl [E0]; · iexact E0
  isplitl [E1]; · iexact E1
  isplitl [E2]; · iexact E2
  isplitl [E3]; · iexact E3
  iexact E4

/-! ## The region's proof data -/

/-- The weights stay in their windows; the rings go from unwritten to written. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := if t.val = 0 then ringsA m c else ringsB m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]

/-- The region calls the body on the point's windows. -/
theorem defs_tc : (defs₀ (F := F)) .tc cfg0.body
    = fun a => bodyG (F := F) (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (F := F) (st0_0 t) (hstage0_0 0) (st0_1 t) (hstage0_1 0) (st0_2 t) (hstage0_2 0) (st0_3 t) (hstage0_3 0) (st0_4 t) (hstage0_4 0) :=
  (congrFun defs_tc _).trans rfl

theorem Φ_start (c : Dev nD) : (dats m 0 c).Φ t0_0.castSucc = ringsA m c := by dsimp only [dats]; exact if_pos rfl
theorem Φ_end (c : Dev nD) : (dats m 0 c).Φ t0_0.succ = ringsB m c := by dsimp only [dats]; exact if_neg (by decide)

set_option maxHeartbeats 1000000 in
set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, before_w3, before_w4, after_w0, after_w1, after_w2, after_w3, after_w4]
  rw [Φ_start, Φ_end]
  unfold Dat.owesAt Pipeline.owesWithin
  rw [show (dats m 0 c).owed t0_0.castSucc = 0 from rfl, show (dats m 0 c).owed t0_0.succ = 0 from rfl]
  unfold owns
  iintro ⟨HR, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩⟩
  ihave H0 := (pointsTo_rep_entails (c : Thread nD τ) (st0_0 t0_0) g0 fullShare) $$ H0
  rw [hg0]
  ihave H1 := (pointsTo_rep_entails (c : Thread nD τ) (st0_1 t0_0) g1 fullShare) $$ H1
  rw [hg1]
  ihave H2 := (pointsTo_rep_entails (c : Thread nD τ) (st0_2 t0_0) g2 fullShare) $$ H2
  rw [hg2]
  ihave H3 := (pointsTo_rep_entails (c : Thread nD τ) (st0_3 t0_0) g3 fullShare) $$ H3
  rw [hg3]
  ihave H4 := (pointsTo_rep_entails (c : Thread nD τ) (st0_4 t0_0) g4 fullShare) $$ H4
  rw [hg4]
  sl_rw [prog_eq t0_0]
  iapply (wp_wand_r _ _ _)
  isplitl [HR HW H0 H1 H2 H3 H4]
  · iapply (bodyRun c (XA m c) (st0_0 t0_0) (hstage0_0 0) (st0_1 t0_0) (hstage0_1 0) (st0_2 t0_0) (hstage0_2 0) (st0_3 t0_0) (hstage0_3 0) (st0_4 t0_0) (hstage0_4 0)
      ((st0_0 t0_0).view.rep (iblk m c 0 t0_0)) ((st0_1 t0_0).view.rep (iblk m c 1 t0_0)) ((st0_2 t0_0).view.rep (iblk m c 2 t0_0))
      ((st0_3 t0_0).view.rep (iblk m c 3 t0_0)) ((st0_4 t0_0).view.rep (iblk m c 4 t0_0)) W)
    isplitl [H0 H1 H2 H3 H4]
    · isplitl [H0]; · iexact H0
      isplitl [H1]; · iexact H1
      isplitl [H2]; · iexact H2
      isplitl [H3]; · iexact H3
      iexact H4
    isplitl [HW]; · iexact HW
    iexact HR
  iintro %a ⟨⟨H0, H1, H2, H3, H4⟩, ⟨%W', HW⟩, HR⟩
  isplitl [HR]; · iexact HR
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  iexists _; isplitr; · ipureintro; exact View.read_rep _ _
  iexact H4

end Cert.Proof.KernelIdeal

end
-- ==== Proof.Run.lean ====
module

public import proofs.«01_k».proof.Proof.Launch
public import Idealize.ShloMosaic.Lib.Pipeline.KitQuiescent
public import Idealize.ShloMosaic.Lib.Tactic

/-! # The kernel's run

From any memory: the host operations, the region, the body; the final memory holds the arguments as they were and every
row block of the result at its part. -/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The arguments the region neither stages nor streams. -/
abbrev argsP (c : Dev nD) : sProp 𝕄 :=
  iprop((((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8))
/-- What the region is handed of the unscoped memory; what it hands back. -/
def intoΦ (c : Dev nD) : sProp 𝕄 :=
  iprop(bigSep Finset.univ (fun j => bigSep Finset.univ (homeP c (XA m c) j)) ∗ bigSep Finset.univ (fun j => bigSep Finset.univ (aheadP (F := F) c j))
    ∗ Pipeline.ownSems0 (Ix := Unit) (Name := ℕ) (U := UU nD τ) (Lvl := ℕ) (Val := Elt F) (τ := τ) osem c)
def outOfΦ (c : Dev nD) : sProp 𝕄 :=
  iprop((((c : Thread nD τ).loc main_arg0) ↦{fullShare} V m c main_arg0)
    ∗ ∃ g : Buf (Elt F) ((c : Thread nD τ).loc main_v0), ⌜∀ j i, Good c (RB m c t0_0) j i g⌝ ∗ ((c : Thread nD τ).loc main_v0) ↦{fullShare} g)
/-- The launch's share of the algebra. -/
def u₀ : UU nD τ := (initOf (Pipeline.cells cfgs Cert.KernelIdeal.Gen.cellOf_inj) (Pipeline.launchToks cfgs Cert.KernelIdeal.Gen.cellOf_inj), 1)

/-- What a final memory holds on a core: the arguments as launched, every row block of the result at its part. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg8) = m ((c : Thread nD τ).loc main_arg8))
    ∧ ∀ j i, Good c (RB m c t0_0) j i (s.mem ((c : Thread nD τ).loc main_v0))

/-- The host operations lead to the region. -/
theorem hmainU : Pipeline.HMain (Ix := Unit) (Name := ℕ) (U := UU nD τ) (Lvl := ℕ) cfgs 0 defs₀ 𝒱₀ m main (V m) :=
  Pipeline.hmain_prefix cfgs 0 defs₀ 𝒱₀ m main hostOps0 hostOps0_sub hostOps0_fresh main_chain

set_option maxHeartbeats 1000000 in
set_option backward.isDefEq.respectTransparency.types false in
/-- From any memory with zero counters: every execution ends, with the arguments as launched, every row block of the
    result at its part and every counter at zero. -/
theorem run_main : θ_run defs (onTc (τ := τ) (main (F := F))) (s₀ m ρ) (fun r => (∀ c, Final m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := argsP m)
    (hX := fun c => by
      rw [unscopedRest0_eq, x_eq]
      unfold intoΦ
      iintro ⟨⟨HX, G1, G2, G3, G4, G5, G6, G7, G8, -, -, -, -, -, -, -, -, -, -, -, -, -, -, HO⟩, HS, -, -, -⟩
      imodintro
      isplitl [HX HO HS]
      · isplitl [HX]; · iexact HX
        isplitl [HO]; · iapply (out_split c); iexists _; iexact HO
        iexact HS
      isplitl [G1]; · iexact G1
      isplitl [G2]; · iexact G2
      isplitl [G3]; · iexact G3
      isplitl [G4]; · iexact G4
      isplitl [G5]; · iexact G5
      isplitl [G6]; · iexact G6
      isplitl [G7]; · iexact G7
      iexact G8)
    (hin := fun c => by
      rw [show (dats m 0 c).Φ 0 = ringsA m c from Φ_start m c]
      unfold intoΦ
      iintro ⟨⟨HX, HO, HS⟩, HB⟩
      iapply (rings_in m c)
      isplitl [HX]; · iexact HX
      isplitl [HO]; · iexact HO
      isplitl [HS]; · iexact HS
      iexact HB)
    (hout := fun c => by
      rw [show (dats m 0 c).Φ (Fin.last cfg0.N) = ringsB m c from Φ_end m c]
      unfold outOfΦ
      rw [x_eq]
      iintro HR
      ihave H := (rings_out m c) $$ HR
      icases H with ⟨HX, HO, HS, HB⟩
      isplitl [HX HO]
      · isplitl [HX]; · iexact HX
        iapply (out_join c (RB m c t0_0)); iexact HO
      isplitl [HS]; · iexact HS
      iexact HB)
    (QY := Final m)
    (hY := fun c s' => by
      unfold outOfΦ
      iintro ⟨⟨G0, ⟨%g, %hg, HO⟩⟩, ⟨G1, G2, G3, G4, G5, G6, G7, G8⟩, HSI⟩
      icombine HSI G0 gives %h0
      icombine HSI G1 gives %h1
      icombine HSI G2 gives %h2
      icombine HSI G3 gives %h3
      icombine HSI G4 gives %h4
      icombine HSI G5 gives %h5
      icombine HSI G6 gives %h6
      icombine HSI G7 gives %h7
      icombine HSI G8 gives %h8
      icombine HSI HO gives %ho
      imodintro
      isplitr
      · ipureintro
        have eo := Buf.eq_of_forall_mem_univ ho
        exact ⟨⟨(Buf.eq_of_forall_mem_univ h0).trans (V_main_arg0 m c), (Buf.eq_of_forall_mem_univ h1).trans (V_main_arg1 m c), (Buf.eq_of_forall_mem_univ h2).trans (V_main_arg2 m c), (Buf.eq_of_forall_mem_univ h3).trans (V_main_arg3 m c), (Buf.eq_of_forall_mem_univ h4).trans (V_main_arg4 m c), (Buf.eq_of_forall_mem_univ h5).trans (V_main_arg5 m c), (Buf.eq_of_forall_mem_univ h6).trans (V_main_arg6 m c), (Buf.eq_of_forall_mem_univ h7).trans (V_main_arg7 m c), (Buf.eq_of_forall_mem_univ h8).trans (V_main_arg8 m c)⟩, fun j i => by rw [eo]; exact hg j i⟩
      iexact HSI)
    (hQ := fun _ hh hz => ⟨fun c => (hh c).2, hz⟩)

end Cert.Proof.KernelIdeal

end
-- ==== Proof.Frames.lean ====
module

public import proofs.«01_k».proof.Defs
public import proofs.«01_k».proof.Proof.Run
public import proofs.«01_k».proof.Proof.Gen.Kernel
public import proofs.«01_k».proof.Proof.Gen.ReferenceIdeal.Run

/-! # The frames

The printed kernel and the ideal one are the same text, so both frames are the one run, at their own float values. The
reference is host operations alone: its frame is their run. -/

@[expose] public section

noncomputable section

namespace Cert.Proof

open Idealize.ShloMosaic Idealize.SL.Sem

section
variable {F : FTy → Type} [FloatOps F]

set_option maxHeartbeats 4000000 in
/-- The two kernel bodies are the same text. -/
theorem body_same : Cert.Kernel.cc0__outer (F := F) = Cert.KernelIdeal.cc0__outer (F := F) := rfl

/-- So the two programs run the same bodies. -/
theorem defs_same : Cert.Kernel.defs (F := F) = Cert.KernelIdeal.defs (F := F) := by
  have h : Cert.Kernel.defs₀ (F := F) = Cert.KernelIdeal.defs₀ (F := F) := by
    unfold Cert.Kernel.defs₀ Cert.KernelIdeal.defs₀
    congr 1
    funext l
    rcases l with ⟨_ | _, h⟩
    · funext x
      rcases x with ⟨t, s⟩
      dsimp only
      rw [body_same]
    · omega
  unfold Cert.Kernel.defs Cert.KernelIdeal.defs
  rw [h]
  rfl

open Cert.KernelIdeal
/-- The kernel over any float values: it ends, the arguments as they were, every semaphore at zero. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD, r.2.mem (c.tc.loc main_arg0) = m (c.tc.loc main_arg0) ∧ r.2.mem (c.tc.loc main_arg1) = m (c.tc.loc main_arg1) ∧ r.2.mem (c.tc.loc main_arg2) = m (c.tc.loc main_arg2) ∧ r.2.mem (c.tc.loc main_arg3) = m (c.tc.loc main_arg3) ∧ r.2.mem (c.tc.loc main_arg4) = m (c.tc.loc main_arg4) ∧ r.2.mem (c.tc.loc main_arg5) = m (c.tc.loc main_arg5) ∧ r.2.mem (c.tc.loc main_arg6) = m (c.tc.loc main_arg6) ∧ r.2.mem (c.tc.loc main_arg7) = m (c.tc.loc main_arg7) ∧ r.2.mem (c.tc.loc main_arg8) = m (c.tc.loc main_arg8)) ∧ r.2.sem = fun _ => 0) :=
  (θ_run defs _ _).mono (fun _ h => ⟨fun c => (h.1 c).1, h.2⟩) (KernelIdeal.run_main m ρ)

end

/-- The kernel as printed: the same text. -/
theorem frame_kernel : Cert.quiescent_Kernel := fun m ρ _ => by
  rw [defs_same]
  exact frame_any (F := Bits) m ρ

/-- The kernel over the reals. -/
theorem frame_kernelIdeal : Cert.quiescent_KernelIdeal := fun m ρ _ => frame_any (F := Ideal) m ρ

/-- The reference over the reals. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Algebra.lean ====
module

public import Idealize.ShloMosaic.Lib.Pointwise

/-! # One entry of the result, over the extended reals

Both programs' entry as plain sums, and that they agree: the columns of the other type's half are masked to zero, a row
of zeros and zero padding add nothing, and a row's type is zero or one. -/

@[expose] public section

noncomputable section

namespace Cert.Proof

open Idealize.ShloMosaic

/-- The activation on one number. -/
def leaky (h : EReal) : EReal := if 0 ≤ h then h else Ideal.ofBits .f32 0x3C23D70A#32 * h

/-- The kernel's mask word keeps an entry exactly where the column's half is the row's type. -/
theorem mask_word (p : Fin 256) (b : Bool) (u v : EReal) :
    Scalar.select (IntOp.xori (IntOp.xori (IntOp.cmpi CmpIPredicate.slt (BitVec.ofNat 32 p.val) 128#32) (BitVec.ofBool b)) 1#1) u v
      = if decide (p.val < 128) = b then u else v := by
  have h : IntOp.cmpi CmpIPredicate.slt (BitVec.ofNat 32 p.val) 128#32 = BitVec.ofBool (decide (p.val < 128)) := by
    revert p; decide
  rw [h]
  cases decide (p.val < 128) <;> cases b <;> rfl

/-- The fused entry: one pass over the joined columns, those of the other type masked, and the type's bias. -/
def fused (X : Fin 129 → EReal) (W : Fin 129 → Fin 256 → EReal) (B G : Fin 256 → EReal) (bv bc : EReal) : EReal :=
  (∑ p : Fin 256, (if decide (p.val < 128) = decide (X 0 = 0) then leaky (∑ k : Fin 129, X k * W k p + B p) else 0) * G p)
    + if X 0 = 0 then bv else bc

/-- One type's encoder: two layers over the first `n` features. -/
def encode {n : ℕ} (x : Fin n → EReal) (W : Fin n → Fin 128 → EReal) (B G : Fin 128 → EReal) (b : EReal) : EReal :=
  (∑ p : Fin 128, leaky (∑ k : Fin n, x k * W k p + B p) * G p) + b

/-- The plain entry: each type's encoder where the row is of that type. -/
def plain (X : Fin 129 → EReal) (W1 : Fin 128 → Fin 128 → EReal) (B1 G1 : Fin 128 → EReal) (bv : EReal)
    (W2 : Fin 64 → Fin 128 → EReal) (B2 G2 : Fin 128 → EReal) (bc : EReal) : EReal :=
  (if X 0 = 0 then encode (fun k : Fin 128 => X k.succ) W1 B1 G1 bv else 0)
    + if X 0 = 1 then encode (fun k : Fin 64 => X (Fin.castAdd 64 k).succ) W2 B2 G2 bc else 0

theorem sum_halves (f : Fin 256 → EReal) : ∑ p, f p = ∑ p : Fin 128, f (Fin.castAdd 128 p) + ∑ p : Fin 128, f (Fin.natAdd 128 p) :=
  Fin.sum_univ_add (a := 128) (b := 128) f

/-- A first-layer sum whose row of zeros adds nothing; -/
theorem skip_zero (X w : Fin 129 → EReal) (h : w 0 = 0) : ∑ k, X k * w k = ∑ k : Fin 128, X k.succ * w k.succ := by
  rw [Fin.sum_univ_succ, h, mul_zero, zero_add]

/-- one whose last rows are zero. -/
theorem skip_pad (x w : Fin 128 → EReal) (h : ∀ k : Fin 64, w (Fin.natAdd 64 k) = 0) :
    ∑ k, x k * w k = ∑ k : Fin 64, x (Fin.castAdd 64 k) * w (Fin.castAdd 64 k) := by
  refine (Fin.sum_univ_add (a := 64) (b := 64) (fun k => x k * w k)).trans ?_
  exact (congrArg (_ + ·) (Finset.sum_eq_zero fun k _ => by rw [h k, mul_zero])).trans (add_zero _)

/-- The two entries agree. -/
theorem fused_eq_plain (X : Fin 129 → EReal) (W : Fin 129 → Fin 256 → EReal) (B G : Fin 256 → EReal) (bv bc : EReal)
    (W1 : Fin 128 → Fin 128 → EReal) (B1 G1 : Fin 128 → EReal) (W2 : Fin 64 → Fin 128 → EReal) (B2 G2 : Fin 128 → EReal)
    (hX : X 0 = 0 ∨ X 0 = 1) (h0 : ∀ p, W 0 p = 0) (hv : ∀ k p, W (Fin.succ k) (Fin.castAdd 128 p) = W1 k p)
    (hc : ∀ (k : Fin 64) (p : Fin 128), W (Fin.castAdd 64 k).succ (Fin.natAdd 128 p) = W2 k p)
    (hz : ∀ (k : Fin 64) (p : Fin 128), W (Fin.natAdd 64 k).succ (Fin.natAdd 128 p) = 0)
    (hB1 : ∀ p, B (Fin.castAdd 128 p) = B1 p) (hB2 : ∀ p, B (Fin.natAdd 128 p) = B2 p)
    (hG1 : ∀ p, G (Fin.castAdd 128 p) = G1 p) (hG2 : ∀ p, G (Fin.natAdd 128 p) = G2 p) :
    fused X W B G bv bc = plain X W1 B1 G1 bv W2 B2 G2 bc := by
  have lo : ∀ p : Fin 128, decide ((Fin.castAdd 128 p).val < 128) = true := fun p => decide_eq_true p.isLt
  have hi : ∀ p : Fin 128, decide ((Fin.natAdd 128 p).val < 128) = false := fun p =>
    decide_eq_false (by show ¬ 128 + p.val < 128; omega)
  have e1 : ∀ p, ∑ k, X k * W k (Fin.castAdd 128 p) = ∑ k : Fin 128, X k.succ * W1 k p := fun p => by
    rw [skip_zero X (fun k => W k (Fin.castAdd 128 p)) (h0 _)]
    exact Finset.sum_congr rfl fun k _ => by rw [hv]
  have e2 : ∀ p, ∑ k, X k * W k (Fin.natAdd 128 p) = ∑ k : Fin 64, X (Fin.castAdd 64 k).succ * W2 k p := fun p => by
    rw [skip_zero X (fun k => W k (Fin.natAdd 128 p)) (h0 _),
      skip_pad (fun k => X k.succ) (fun k => W k.succ (Fin.natAdd 128 p)) (fun k => hz k p)]
    exact Finset.sum_congr rfl fun k _ => by rw [hc]
  unfold fused plain encode
  rw [sum_halves]
  simp only [lo, hi, e1, e2, hB1, hB2, hG1, hG2]
  rcases hX with h | h
  · rw [h]
    simp
  · rw [h]
    simp

end Cert.Proof

end
-- ==== Proof.Rows.lean ====
module

public import proofs.«01_k».proof.Proof.Run

/-! # The target over the host's arrays

The body loads each weight whole, and the pipeline stages each weight whole, so a row block's target is the step's
function of the arrays the host leaves. -/

@[expose] public section

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- A load of a whole buffer held at the contents that read `x` reads `x`. -/
theorem whole_load {κ : Kind} {sp : Space} {s : Shape} {e : EltTy} (v : View sig κ sp s e) (x : s.Idx → Elt F e) {off : Fin s.rank → Nat}
    (h : off = fun _ => 0) (inb : ∀ a, off a + s.size a ≤ s.size a) :
    View.readAt (Elt F) v (Rect.unit (s := s) off s.size inb).toLoadRect (v.rep x) = x := by
  rw [View.readAt_eq_ld, View.read_rep]
  exact View.ld_unit_zero h inb x

theorem zero2 : (![0, 0] : Fin 2 → Nat) = fun _ => 0 := funext fun a => by fin_cases a <;> rfl

theorem block0 (c : Dev nD) : iblk m c 0 t0_0 = V m c main_call0_v8 :=
  Memref.read_access_unit_zero (Elt F) main_call0_v8 (funext fun a => by fin_cases a <;> decide) (fun a => by fin_cases a <;> decide) _
theorem block1 (c : Dev nD) : iblk m c 1 t0_0 = V m c main_call0_v10 :=
  Memref.read_access_unit_zero (Elt F) main_call0_v10 (funext fun a => by fin_cases a <;> decide) (fun a => by fin_cases a <;> decide) _
theorem block2 (c : Dev nD) : iblk m c 2 t0_0 = V m c main_call0_v11 :=
  Memref.read_access_unit_zero (Elt F) main_call0_v11 (funext fun a => by fin_cases a <;> decide) (fun a => by fin_cases a <;> decide) _
theorem block3 (c : Dev nD) : iblk m c 3 t0_0 = V m c main_call0_v12 :=
  Memref.read_access_unit_zero (Elt F) main_call0_v12 (funext fun a => by fin_cases a <;> decide) (fun a => by fin_cases a <;> decide) _
theorem block4 (c : Dev nD) : iblk m c 4 t0_0 = V m c main_call0_v13 :=
  Memref.read_access_unit_zero (Elt F) main_call0_v13 (funext fun a => by fin_cases a <;> decide) (fun a => by fin_cases a <;> decide) _

/-- A row block's target over the arrays as the host leaves them. -/
theorem RB_eq (c : Dev nD) (j : Fin 5) (i : Fin 10) : RB m c t0_0 j i
    = blockF (xpay c (XA m c) j i) (V m c main_call0_v8) (V m c main_call0_v10) (V m c main_call0_v11) (V m c main_call0_v12) (V m c main_call0_v13) := by
  rw [← block0 m c, ← block1 m c, ← block2 m c, ← block3 m c, ← block4 m c]
  unfold RB tgt target
  rw [whole_load _ _ zero2, whole_load _ _ zero2, whole_load _ _ zero2, whole_load _ _ zero2, whole_load _ _ zero2]

end Cert.Proof.KernelIdeal

end
-- ==== Proof.Entry.lean ====
module

public import proofs.«01_k».proof.Proof.Algebra
public import proofs.«01_k».proof.Proof.Rows
public import proofs.«01_k».proof.Proof.Gen.ReferenceIdeal.Run
public import Idealize.ShloMosaic.Lib.Tactic.CleanTypes

/-! # One entry of each program

The kernel's step and the reference, each read at one entry. -/

@[expose] public section

noncomputable section

open Idealize.ShloMosaic Idealize.ShloMosaic.TcCoe

namespace Cert.Proof.KernelIdeal
open Cert.KernelIdeal Cert.KernelIdeal.Gen

set_option maxRecDepth 16384 in
/-- The step's rows at an entry: the fused entry of the row. -/
theorem block_entry (x : FVec Ideal S2000x129 .f32) (w1 : FVec Ideal S129x256 .f32) (b1 : FVec Ideal S1x256 .f32) (w2 : FVec Ideal S256x128 .f32)
    (bv bc : FVec Ideal S1x128 .f32) (r : Fin 2000) (q : Fin 128) :
    blockF x w1 b1 w2 bv bc (ix2 r q) = fused (fun k => x (ix2 r k)) (fun k p => w1 (ix2 k p)) (fun p => b1 (ix2 0 p)) (fun p => w2 (ix2 p q))
      (bv (ix2 0 q)) (bc (ix2 0 q)) := by
  pointwise [blockF, biasF, keepMask, leakyF, preact, isVar]
  refine congrArg (· + _) (Finset.sum_congr rfl fun p _ => ?_)
  refine (mask_word _ _ _ _).trans ?_
  by_cases h : decide (p.val < 128) = decide (x (ix2 r 0) = 0)
  · exact (if_pos h).trans (congrArg (· * w2 (ix2 p q)) (if_pos h).symm)
  · exact (if_neg h).trans ((zero_mul _).symm.trans (congrArg (· * w2 (ix2 p q)) (if_neg h).symm))

end Cert.Proof.KernelIdeal

namespace Cert.Proof.ReferenceIdeal
open Cert.ReferenceIdeal Cert.ReferenceIdeal.Gen

set_option maxRecDepth 16384 in
/-- The reference at an entry: the plain entry of the row. -/
theorem ref_entry (m : (ℓ : Loc nD τ sig) → Buf (Elt Ideal) ℓ) (c : Dev nD) (r : Fin 100000) (q : Fin 128) :
    Cert.ReferenceIdeal.Value.res_main_v32 m c (ix2 r q)
      = plain (fun k => m ((c.tc : Thread nD τ).loc main_arg0) (ix2 r k))
          (fun k p => m ((c.tc : Thread nD τ).loc main_arg1) (ix2 k p)) (fun p => m ((c.tc : Thread nD τ).loc main_arg2) (ix1 p))
          (fun p => m ((c.tc : Thread nD τ).loc main_arg3) (ix2 p q)) (m ((c.tc : Thread nD τ).loc main_arg4) (ix1 q))
          (fun k p => m ((c.tc : Thread nD τ).loc main_arg5) (ix2 k p)) (fun p => m ((c.tc : Thread nD τ).loc main_arg6) (ix1 p))
          (fun p => m ((c.tc : Thread nD τ).loc main_arg7) (ix2 p q)) (m ((c.tc : Thread nD τ).loc main_arg8) (ix1 q)) := by
  unfold Cert.ReferenceIdeal.Value.res_main_v32
  clean_types
  pointwise
  have e : ∀ k : Fin 128, (⟨1 + k.val, by omega⟩ : Fin 129) = k.succ := fun k => Fin.ext (Nat.add_comm 1 k.val)
  have e' : ∀ k : Fin 64, (⟨1 + k.val, by omega⟩ : Fin 129) = (Fin.castAdd 64 k).succ := fun k => Fin.ext (Nat.add_comm 1 k.val)
  have z : (id (constant (F := Ideal) S_ FTy.f32 0#32) ix0 : EReal) = 0 := Ideal.ofBits_zero_f32
  simp only [e, e', z]
  rfl

end Cert.Proof.ReferenceIdeal
end
-- ==== Proof.Scatter.lean ====
module

public import Idealize.ShloMosaic.Lib.Routing.OpsOne

/-! # A scatter that sets a rectangle

A rectangle written into a matrix at a corner given by two index words: which entry each update lands on, what the
written entries hold, what the others keep. -/

@[expose] public section

noncomputable section

namespace Cert.Proof

open Idealize.ShloMosaic Idealize.ShloMosaic.Routing

/-- Where an update of a rectangle lands: on each axis, at the axis's index word plus the update's coordinate. -/
theorem lands_block {R C U W w : Nat} (d : ScatterDims (shape2 R C) (shape1 2) (shape2 U W)) (hu : d.updateWindowDims = [0, 1]) (hiw : d.insertedWindowDims = [])
    (hsd : d.scatterDimsToOperandDims = [0, 1]) (hivd : d.indexVectorDim = 0) (idx : IVec (shape1 2) w) (k : (shape2 U W).Idx) (i : (shape2 R C).Idx) :
    d.resultIdx? k idx = some i ↔ (idx (ValueIdx.ix1 (0 : Fin 2))).toInt + ((k 0).val : Int) = ((i 0).val : Int)
      ∧ (idx (ValueIdx.ix1 (1 : Fin 2))).toInt + ((k 1).val : Int) = ((i 1).val : Int) := by
  have hk : d.sKept = [0, 1] := by
    show (shape2 R C).kept d.insertedWindowDims = _
    rw [hiw]; rfl
  have hwin : ∀ q : Fin 2, d.window k q = (k q).val := fun q => by
    unfold ScatterDims.window
    rw [dif_pos (by rw [hk]; fin_cases q <;> simp)]
    have e : d.updateWindowDims[List.idxOf q d.sKept]'(by rw [hu, hk]; fin_cases q <;> simp) = q := by
      simp only [hu, hk]
      fin_cases q <;> rfl
    exact congrArg (fun t => (k t).val) e
  rw [resultIdx?_eq_some]
  simp only [start_pair d hsd hivd, hwin]
  exact Fin.forall_fin_two

/-- An entry the rectangle covers holds the update; -/
theorem set_block_hit {α : Type} {R C U W w : Nat} (d : ScatterDims (shape2 R C) (shape1 2) (shape2 U W)) (hu : d.updateWindowDims = [0, 1]) (hiw : d.insertedWindowDims = [])
    (hsd : d.scatterDimsToOperandDims = [0, 1]) (hivd : d.indexVectorDim = 0) (idx : IVec (shape1 2) w) {r₀ c₀ : Nat}
    (h0 : (idx (ValueIdx.ix1 (0 : Fin 2))).toInt = (r₀ : Int)) (h1 : (idx (ValueIdx.ix1 (1 : Fin 2))).toInt = (c₀ : Int))
    (x0 : (shape2 R C).Idx → α) (upd : (shape2 U W).Idx → α) (k : (shape2 U W).Idx) (i : (shape2 R C).Idx)
    (e0 : r₀ + (k 0).val = (i 0).val) (e1 : c₀ + (k 1).val = (i 1).val) :
    Host.scatter d (fun _ b => b) x0 idx upd i = upd k := by
  have hl := fun k' => lands_block d hu hiw hsd hivd idx k' i
  simp only [h0, h1] at hl
  refine scatter_set_hit d x0 idx upd i (upd k) (fun k' hk' => congrArg upd ?_) k ((hl k).2 ⟨by omega, by omega⟩)
  obtain ⟨g0, g1⟩ := (hl k').1 hk'
  exact funext (Fin.forall_fin_two.2 ⟨Fin.ext (by omega), Fin.ext (by omega)⟩)

/-- an entry outside it keeps what it held. -/
theorem set_block_miss {α : Type} {R C U W w : Nat} (d : ScatterDims (shape2 R C) (shape1 2) (shape2 U W)) (hu : d.updateWindowDims = [0, 1]) (hiw : d.insertedWindowDims = [])
    (hsd : d.scatterDimsToOperandDims = [0, 1]) (hivd : d.indexVectorDim = 0) (idx : IVec (shape1 2) w) {r₀ c₀ : Nat}
    (h0 : (idx (ValueIdx.ix1 (0 : Fin 2))).toInt = (r₀ : Int)) (h1 : (idx (ValueIdx.ix1 (1 : Fin 2))).toInt = (c₀ : Int))
    (x0 : (shape2 R C).Idx → α) (upd : (shape2 U W).Idx → α) (i : (shape2 R C).Idx)
    (e : (i 0).val < r₀ ∨ r₀ + U ≤ (i 0).val ∨ (i 1).val < c₀ ∨ c₀ + W ≤ (i 1).val) :
    Host.scatter d (fun _ b => b) x0 idx upd i = x0 i := by
  refine scatter_set_miss d x0 idx upd i fun k' hk' => ?_
  obtain ⟨g0, g1⟩ := (lands_block d hu hiw hsd hivd idx k' i).1 hk'
  have b0 : (k' 0).val < U := (k' 0).isLt
  have b1 : (k' 1).val < W := (k' 1).isLt
  omega

end Cert.Proof

end
-- ==== Proof.Joined.lean ====
module

public import proofs.«01_k».proof.Proof.Scatter
public import proofs.«01_k».proof.Proof.Block
public import Idealize.ShloMosaic.Lib.Pointwise

/-! # The joined first layer

The host writes the two types' first layers into a zero matrix, side by side and below a row of zeros. Its entries. -/

@[expose] public section

noncomputable section

namespace Cert.Proof.KernelIdeal

open Cert.KernelIdeal Cert.KernelIdeal.Gen
open Idealize.ShloMosaic Idealize.ShloMosaic.TcCoe

variable {F : FTy → Type} [FloatOps F]

/-- The pair of index words the host makes of two numbers. -/
abbrev pairOf (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- The zero matrix with the first type's layer at row one. -/
def w1L (a1 : FVec F S128x128 .f32) : FVec F S129x256 .f32 :=
  Host.scatter scatter_S129x256_S2_S128x128_01_n_01_0 (fun _ b => b)
    (broadcastInDim S129x256 ![] bcast_S_S129x256 (constant S_ .f32 0x00000000#32)) (pairOf 1#32 0#32) a1

/-- That with the second type's layer beside it. -/
def w1F (a1 : FVec F S128x128 .f32) (a5 : FVec F S64x128 .f32) : FVec F S129x256 .f32 :=
  Host.scatter scatter_S129x256_S2_S64x128_01_n_01_0 (fun _ b => b) (w1L a1) (pairOf 1#32 128#32) a5

variable (a1 : FVec F S128x128 .f32) (a5 : FVec F S64x128 .f32)

/-- The second layer's scatter leaves an entry in the first row, in the left half or below row 64. -/
theorem w1F_out (k : Fin 129) (p : Fin 256) (e : k.val < 1 ∨ 65 ≤ k.val ∨ p.val < 128) : w1F a1 a5 (ix2 k p) = w1L a1 (ix2 k p) :=
  set_block_miss (r₀ := 1) (c₀ := 128) _ rfl rfl rfl rfl _ (by decide) (by decide) _ _ _ (by
    rcases e with e | e | e
    · exact .inl e
    · exact .inr (.inl e)
    · exact .inr (.inr (.inl e)))

/-- The first layer's scatter leaves an entry in the first row or in the right half at zero. -/
theorem w1L_out (k : Fin 129) (p : Fin 256) (e : k.val < 1 ∨ 128 ≤ p.val) : w1L a1 (ix2 k p) = FloatOps.ofBits .f32 0x00000000#32 :=
  set_block_miss (r₀ := 1) (c₀ := 0) _ rfl rfl rfl rfl _ (by decide) (by decide) _ _ _ (by
    rcases e with e | e
    · exact .inl e
    · exact .inr (.inr (.inr (by show 0 + 128 ≤ p.val; omega))))

/-- The left half below the first row is the first type's layer; -/
theorem w1F_left (k p : Fin 128) : w1F a1 a5 (ix2 k.succ (Fin.castAdd 128 p : Fin 256)) = a1 (ix2 k p) :=
  (w1F_out a1 a5 _ _ (.inr (.inr p.isLt))).trans
    (set_block_hit (r₀ := 1) (c₀ := 0) _ rfl rfl rfl rfl _ (by decide) (by decide) _ _ (ix2 k p) _ (Nat.add_comm 1 k.val) (Nat.zero_add p.val))

/-- the right half there is the second type's, -/
theorem w1F_right (k : Fin 64) (p : Fin 128) : w1F a1 a5 (ix2 (Fin.castAdd 64 k : Fin 128).succ (Fin.natAdd 128 p : Fin 256)) = a5 (ix2 k p) :=
  set_block_hit (r₀ := 1) (c₀ := 128) _ rfl rfl rfl rfl _ (by decide) (by decide) _ _ (ix2 k p) _ (Nat.add_comm 1 k.val) rfl

/-- and zero below it; -/
theorem w1F_pad (k : Fin 64) (p : Fin 128) :
    w1F a1 a5 (ix2 (Fin.natAdd 64 k : Fin 128).succ (Fin.natAdd 128 p : Fin 256)) = FloatOps.ofBits .f32 0x00000000#32 :=
  (w1F_out a1 a5 _ _ (.inr (.inl (by show 65 ≤ 64 + k.val + 1; omega)))).trans
    (w1L_out a1 _ _ (.inr (Nat.le_add_right 128 p.val)))

/-- the first row is zero. -/
theorem w1F_zero (p : Fin 256) : w1F a1 a5 (ix2 0 p) = FloatOps.ofBits .f32 0x00000000#32 :=
  (w1F_out a1 a5 _ _ (.inl Nat.zero_lt_one)).trans (w1L_out a1 _ _ (.inl Nat.zero_lt_one))

end Cert.Proof.KernelIdeal

end
-- ==== Proof.Agree.lean ====
module

public import proofs.«01_k».proof.Proof.Entry
public import proofs.«01_k».proof.Proof.Joined

/-! # The kernel's entry is the plain entry

With the weights joined as the host joins them, the step's entry of a row typed zero or one is the reference's. -/

@[expose] public section

noncomputable section

open Idealize.ShloMosaic Idealize.ShloMosaic.TcCoe

namespace Cert.Proof.KernelIdeal
open Cert.KernelIdeal Cert.KernelIdeal.Gen

section Joins
variable (u v : FVec Ideal S128 .f32) (a b : FVec Ideal S128x128 .f32) (p q : Fin 128)

/-- Two vectors joined end to end and made one row: its entry. -/
theorem row_join (p : Fin 256) : broadcastInDim S1x256 ![1] bcast_S256_S1x256_1 (concatenate S256 0 [⟨S128, u⟩, ⟨S128, v⟩] concatenates_S128_S128_S256_d0) (ix2 0 p)
    = if h : p.val < 128 then u (ix1 ⟨p.val, h⟩) else v (ix1 ⟨p.val - 128, by omega⟩) := by
  pointwise

/-- Two matrices joined one above the other: its entry. -/
theorem col_join (p : Fin 256) : concatenate S256x128 0 [⟨S128x128, a⟩, ⟨S128x128, b⟩] concatenates_S128x128_S128x128_S256x128_d0 (ix2 p q)
    = if h : p.val < 128 then a (ix2 ⟨p.val, h⟩ q) else b (ix2 ⟨p.val - 128, by omega⟩ q) := by
  pointwise

/-- A vector made one row: its entry. -/
theorem row_entry : broadcastInDim S1x128 ![1] bcast_S128_S1x128_1 u (ix2 0 q) = u (ix1 q) := by
  pointwise

end Joins

/-- A row typed zero or one: the step's entry over the joined weights is the plain entry. -/
theorem block_plain (x : FVec Ideal S2000x129 .f32) (a1 : FVec Ideal S128x128 .f32) (a2 : FVec Ideal S128 .f32) (a3 : FVec Ideal S128x128 .f32) (a4 : FVec Ideal S128 .f32)
    (a5 : FVec Ideal S64x128 .f32) (a6 : FVec Ideal S128 .f32) (a7 : FVec Ideal S128x128 .f32) (a8 : FVec Ideal S128 .f32) (r : Fin 2000) (q : Fin 128)
    (h : x (ix2 r 0) = 0 ∨ x (ix2 r 0) = 1) :
    blockF x (w1F a1 a5) (broadcastInDim S1x256 ![1] bcast_S256_S1x256_1 (concatenate S256 0 [⟨S128, a2⟩, ⟨S128, a6⟩] concatenates_S128_S128_S256_d0))
        (concatenate S256x128 0 [⟨S128x128, a3⟩, ⟨S128x128, a7⟩] concatenates_S128x128_S128x128_S256x128_d0)
        (broadcastInDim S1x128 ![1] bcast_S128_S1x128_1 a4) (broadcastInDim S1x128 ![1] bcast_S128_S1x128_1 a8) (ix2 r q)
      = plain (fun k => x (ix2 r k)) (fun k p => a1 (ix2 k p)) (fun p => a2 (ix1 p)) (fun p => a3 (ix2 p q)) (a4 (ix1 q))
          (fun k p => a5 (ix2 k p)) (fun p => a6 (ix1 p)) (fun p => a7 (ix2 p q)) (a8 (ix1 q)) := by
  have lo : ∀ p : Fin 128, (Fin.castAdd 128 p : Fin 256).val < 128 := fun p => p.isLt
  have hi : ∀ p : Fin 128, ¬ (Fin.natAdd 128 p : Fin 256).val < 128 := fun p => by show ¬ 128 + p.val < 128; omega
  have sub : ∀ (p : Fin 128) (l), (⟨(Fin.natAdd 128 p : Fin 256).val - 128, l⟩ : Fin 128) = p := fun p _ => Fin.ext (Nat.add_sub_cancel_left 128 p.val)
  rw [block_entry, row_entry, row_entry]
  refine fused_eq_plain _ _ _ _ _ _ _ _ _ _ _ _ h (fun p => ?_) (fun k p => w1F_left a1 a5 k p) (fun k p => w1F_right a1 a5 k p) (fun k p => ?_)
    (fun p => ?_) (fun p => ?_) (fun p => ?_) (fun p => ?_)
  · exact (w1F_zero a1 a5 p).trans Ideal.ofBits_zero_f32
  · exact (w1F_pad a1 a5 k p).trans Ideal.ofBits_zero_f32
  · exact (row_join a2 a6 _).trans (dif_pos (lo p))
  · exact (row_join a2 a6 _).trans ((dif_neg (hi p)).trans (congrArg (fun i => a6 (ix1 i)) (sub p _)))
  · exact (col_join a3 a7 q _).trans (dif_pos (lo p))
  · exact (col_join a3 a7 q _).trans ((dif_neg (hi p)).trans (congrArg (fun i => a7 (ix2 i q)) (sub p _)))

end Cert.Proof.KernelIdeal

end
-- ==== Proof.Weights.lean ====
module

public import proofs.«01_k».proof.Proof.Joined
public import proofs.«01_k».proof.Proof.Run

/-! # The weights the host builds

The host lays the two types' first layers side by side below a row of zeros, the second layers one above the other, the
first biases end to end. -/

@[expose] public section

noncomputable section

namespace Cert.Proof.KernelIdeal

open Cert.KernelIdeal Cert.KernelIdeal.Gen
open Idealize.ShloMosaic Idealize.ShloMosaic.TcCoe
open Idealize.ShloMosaic.StableHlo (TRef)

variable {F : FTy → Type} [FloatOps F]
variable (m : (ℓ : Loc nD τ sig) → Buf (Elt F) ℓ)

/-- The first layers, side by side; the biases; the second layers; the two last biases. -/
theorem V_w1 (c : Dev nD) : V m c main_call0_v8 = w1F (m ((c : Thread nD τ).loc main_arg1)) (m ((c : Thread nD τ).loc main_arg5)) := by
  simp only [V, hostOps0, TRef.binary, TRef.nullary, TRef.ternary, TRef.unary, TRef.toBuf, TRef.ofBuf, cast_eq]
  after_results_simp <;> rfl

theorem V_b1 (c : Dev nD) : V m c main_call0_v10 = broadcastInDim S1x256 ![1] bcast_S256_S1x256_1 (concatenate S256 0 [⟨S128, m ((c : Thread nD τ).loc main_arg2)⟩, ⟨S128, m ((c : Thread nD τ).loc main_arg6)⟩] concatenates_S128_S128_S256_d0) := by
  simp only [V, hostOps0, TRef.binary, TRef.nullary, TRef.ternary, TRef.unary, TRef.toBuf, TRef.ofBuf, cast_eq]
  after_results_simp <;> rfl

theorem V_w2 (c : Dev nD) : V m c main_call0_v11 = concatenate S256x128 0 [⟨S128x128, m ((c : Thread nD τ).loc main_arg3)⟩, ⟨S128x128, m ((c : Thread nD τ).loc main_arg7)⟩] concatenates_S128x128_S128x128_S256x128_d0 := by
  simp only [V, hostOps0, TRef.binary, TRef.nullary, TRef.ternary, TRef.unary, TRef.toBuf, TRef.ofBuf, cast_eq]
  after_results_simp <;> rfl

theorem V_bv (c : Dev nD) : V m c main_call0_v12 = broadcastInDim S1x128 ![1] bcast_S128_S1x128_1 (m ((c : Thread nD τ).loc main_arg4)) := by
  simp only [V, hostOps0, TRef.binary, TRef.nullary, TRef.ternary, TRef.unary, TRef.toBuf, TRef.ofBuf, cast_eq]
  after_results_simp <;> rfl

theorem V_bc (c : Dev nD) : V m c main_call0_v13 = broadcastInDim S1x128 ![1] bcast_S128_S1x128_1 (m ((c : Thread nD τ).loc main_arg8)) := by
  simp only [V, hostOps0, TRef.binary, TRef.nullary, TRef.ternary, TRef.unary, TRef.toBuf, TRef.ofBuf, cast_eq]
  after_results_simp <;> rfl

end Cert.Proof.KernelIdeal

end
-- ==== Proof.Value.lean ====
module

public import proofs.«01_k».proof.Proof.Agree
public import proofs.«01_k».proof.Proof.Weights
public import proofs.«01_k».proof.Defs
public import Idealize.ShloMosaic.Lib.Tactic.CleanTypes

/-! # The result is the reference's

Where every row is typed zero or one, each row block's target is the reference's rows, and the row blocks cover the
result. -/

@[expose] public section

noncomputable section

open Idealize.ShloMosaic Idealize.ShloMosaic.TcCoe

/-- The side conditions of the precondition. -/
instance Cert.Proof.facts_pre : Cert.Pre_typed_nodes.Facts where
  slices_S100000x129_S100000x1_0_0 := by decide
  shapeCasts_S100000x1_S100000 := by decide
  bcast_S_S100000 := by decide

namespace Cert.Proof.KernelIdeal
open Cert.KernelIdeal Cert.KernelIdeal.Gen

set_option maxRecDepth 16384 in
/-- The precondition, read at a row: its type is zero or one. -/
theorem typed_row (a0 : FVec Ideal S100000x129 .f32) (a1 : FVec Ideal S128x128 .f32) (a2 : FVec Ideal S128 .f32) (a3 : FVec Ideal S128x128 .f32) (a4 : FVec Ideal S128 .f32)
    (a5 : FVec Ideal S64x128 .f32) (a6 : FVec Ideal S128 .f32) (a7 : FVec Ideal S128x128 .f32) (a8 : FVec Ideal S128 .f32)
    (h : Cert.Pre_typed_nodes.fn a0 a1 a2 a3 a4 a5 a6 a7 a8 = fun _ => 1#1) (r : Fin 100000) : a0 (ix2 r 0) = 0 ∨ a0 (ix2 r 0) = 1 := by
  have e := congrFun h (ix1 r)
  unfold Cert.Pre_typed_nodes.fn at e
  pointwise at e
  revert e
  by_cases h0 : a0 (ix2 r 0) = 0
  · exact fun _ => .inl h0
  by_cases h1 : a0 (ix2 r 0) = 1
  · exact fun _ => .inr h1
  rw [decide_eq_false h0, decide_eq_false h1]
  exact fun e => absurd e (by decide)

variable (m : (ℓ : Loc nD τ sig) → Buf (Elt Ideal) ℓ)

/-- A row block of `x` at an entry. -/
theorem xpay_entry (c : Dev nD) (X : Buf (Elt Ideal) ((Memref.whole main_arg0).view.loc (c : Thread nD τ))) (j : Fin 5) (i : Fin 10) (r : Fin 2000) (k : Fin 129)
    (R : Fin 100000) (hR : R.val = 2000 * (5 * i.val + j.val) + r.val) : xpay c X j i (ix2 r k) = X (ix2 R k) := by
  show X _ = X _
  refine congrArg X (funext (Fin.forall_fin_two.2 ⟨Fin.ext ?_, Fin.ext ?_⟩))
  · show 2000 * (5 * i.val + j.val) + 1 * r.val = R.val
    omega
  · show 0 + 1 * k.val = k.val
    omega

/-- A row block of the result at an entry. -/
theorem oblk_entry (c : Dev nD) (f : Buf (Elt Ideal) ((Memref.whole main_v0).view.loc (c : Thread nD τ))) (j : Fin 5) (i : Fin 10) (r : Fin 2000) (q : Fin 128)
    (R : Fin 100000) (hR : R.val = 2000 * (5 * i.val + j.val) + r.val) : (oblk j i).view.read (Elt Ideal) f (ix2 r q) = f (ix2 R q) := by
  show f _ = f _
  refine congrArg f (funext (Fin.forall_fin_two.2 ⟨Fin.ext ?_, Fin.ext ?_⟩))
  · show 2000 * (5 * i.val + j.val) + 1 * r.val = R.val
    omega
  · show 0 + 1 * q.val = q.val
    omega

/-- A row block's target at an entry: the plain entry of that row of `x`. -/
theorem RB_entry (c : Dev nD) (j : Fin 5) (i : Fin 10) (r : Fin 2000) (q : Fin 128) (R : Fin 100000) (hR : R.val = 2000 * (5 * i.val + j.val) + r.val)
    (h : m ((c : Thread nD τ).loc main_arg0) (ix2 R 0) = (0 : EReal) ∨ m ((c : Thread nD τ).loc main_arg0) (ix2 R 0) = (1 : EReal)) :
    RB m c t0_0 j i (ix2 r q)
      = plain (fun k => m ((c : Thread nD τ).loc main_arg0) (ix2 R k)) (fun k p => m ((c : Thread nD τ).loc main_arg1) (ix2 k p))
          (fun p => m ((c : Thread nD τ).loc main_arg2) (ix1 p)) (fun p => m ((c : Thread nD τ).loc main_arg3) (ix2 p q)) (m ((c : Thread nD τ).loc main_arg4) (ix1 q))
          (fun k p => m ((c : Thread nD τ).loc main_arg5) (ix2 k p)) (fun p => m ((c : Thread nD τ).loc main_arg6) (ix1 p))
          (fun p => m ((c : Thread nD τ).loc main_arg7) (ix2 p q)) (m ((c : Thread nD τ).loc main_arg8) (ix1 q)) := by
  have hx : ∀ k, xpay c (XA m c) j i (ix2 r k) = m ((c : Thread nD τ).loc main_arg0) (ix2 R k) := fun k =>
    (xpay_entry c (XA m c) j i r k R hR).trans (congrFun (V_main_arg0 m c) _)
  rw [RB_eq, V_w1, V_b1, V_w2, V_bv, V_bc]
  refine (block_plain _ _ _ _ _ _ _ _ _ r q ?_).trans ?_
  · rw [hx]
    exact h
  · simp only [hx]

/-- A result every row block of which is at its target is any function whose entries are those plain entries. -/
theorem result_eq (c : Dev nD) (f g : Buf (Elt Ideal) ((Memref.whole main_v0).view.loc (c : Thread nD τ))) (hf : ∀ j i, Good c (RB m c t0_0) j i f)
    (hx : ∀ R : Fin 100000, m ((c : Thread nD τ).loc main_arg0) (ix2 R 0) = (0 : EReal) ∨ m ((c : Thread nD τ).loc main_arg0) (ix2 R 0) = (1 : EReal))
    (hg : ∀ (R : Fin 100000) (q : Fin 128), g (ix2 R q)
      = plain (fun k => m ((c : Thread nD τ).loc main_arg0) (ix2 R k)) (fun k p => m ((c : Thread nD τ).loc main_arg1) (ix2 k p))
          (fun p => m ((c : Thread nD τ).loc main_arg2) (ix1 p)) (fun p => m ((c : Thread nD τ).loc main_arg3) (ix2 p q)) (m ((c : Thread nD τ).loc main_arg4) (ix1 q))
          (fun k p => m ((c : Thread nD τ).loc main_arg5) (ix2 k p)) (fun p => m ((c : Thread nD τ).loc main_arg6) (ix1 p))
          (fun p => m ((c : Thread nD τ).loc main_arg7) (ix2 p q)) (m ((c : Thread nD τ).loc main_arg8) (ix1 q))) : f = g := by
  have key : ∀ (R : Fin 100000) (q : Fin 128), f (ix2 R q) = g (ix2 R q) := fun R q => by
    obtain ⟨⟨j, i⟩, e⟩ := block_of R.val R.isLt
    have e' : R.val = 2000 * (5 * i.val + j.val) + (⟨R.val % 2000, Nat.mod_lt _ (by decide)⟩ : Fin 2000).val := by
      show R.val = 2000 * (5 * i.val + j.val) + R.val % 2000
      have := Nat.div_add_mod R.val 2000
      rw [← e]
      exact this.symm
    exact ((oblk_entry c f j i _ q R e').symm.trans (congrFun (hf j i) _)).trans ((RB_entry m c j i _ q R e' (hx R)).trans (hg R q).symm)
  funext y
  exact (congrArg f (eq_ix2 y)).trans ((key (y 0) (y 1)).trans (congrArg g (eq_ix2 y)).symm)

end Cert.Proof.KernelIdeal

end
-- ==== Proof.Algebraic.lean ====
module

public import proofs.«01_k».proof.Proof.Frames
public import proofs.«01_k».proof.Proof.Value

/-! # The kernel over the reals is the reference

On rows typed zero or one, the kernel's result is the reference's. -/

@[expose] public section

noncomputable section

namespace Cert.Proof

open Idealize.ShloMosaic Idealize.SL.Sem

/-- The kernel over the reals, where the precondition holds; -/
theorem frame_kernelIdeal_typed : Cert.quiescent_KernelIdeal_pre_typed_nodes := fun m ρ _ => frame_kernelIdeal m ρ trivial

/-- the reference there. -/
theorem frame_referenceIdeal_typed : Cert.quiescent_ReferenceIdeal_pre_typed_nodes := fun m ρ _ => frame_referenceIdeal m ρ trivial

/-- The two results are one function of the arguments. -/
theorem algebraic : Cert.algebraic_KernelIdeal_ReferenceIdeal_pre_typed_nodes := fun m ρ m' ρ' hpre hag => by
  refine ⟨fun c => Cert.ReferenceIdeal.Value.res_main_v32 m' c,
    (θ_run Cert.KernelIdeal.defs _ _).mono (fun r h c => ⟨?_, (h.1 c).1⟩) (KernelIdeal.run_main m ρ), Cert.ReferenceIdeal.Value.run m' ρ'⟩
  refine KernelIdeal.result_eq m c _ _ (h.1 c).2 (fun R => KernelIdeal.typed_row _ _ _ _ _ _ _ _ _ (hpre c) R) (fun R q => ?_)
  obtain ⟨e0, e1, e2, e3, e4, e5, e6, e7, e8⟩ := hag c
  refine (ReferenceIdeal.ref_entry m' c R q).trans ?_
  rw [e0, e1, e2, e3, e4, e5, e6, e7, e8]

end Cert.Proof

end
-- ==== Proof.lean ====
module

public import proofs.«01_k».proof.Proof.Algebraic

/-! # The claim -/

@[expose] public section

noncomputable section

namespace Cert.Proof

theorem claim : Cert.Claim :=
  ⟨Cert.Kernel.Gen.facts, Cert.KernelIdeal.Gen.facts, Cert.ReferenceIdeal.Gen.facts, facts_pre, frame_kernel, frame_kernelIdeal, frame_kernelIdeal_typed,
    frame_referenceIdeal, frame_referenceIdeal_typed, trivial, algebraic⟩

end Cert.Proof

end
